-- ==== Defs.lean ====
def Pre_Kernel [hPre_pairs_in_range : Cert.Pre_pairs_in_range.Facts] (m : (ℓ : Loc Cert.Kernel.nD Cert.Kernel.τ Cert.Kernel.sig) → Buf (Elt Bits) ℓ) : Prop :=
  ∀ c : Dev Cert.Kernel.nD,
    (Cert.Pre_pairs_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_pairs_in_range : Cert.Pre_pairs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_pairs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_pairs_in_range : Cert.Pre_pairs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pairs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_pairs_in_range : Cert.Pre_pairs_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_pairs_in_range : Cert.Pre_pairs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_pairs_in_range : Cert.Pre_pairs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pairs_in_range : Cert.Pre_pairs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pairs_in_range : Cert.Pre_pairs_in_range.Facts),
    quiescent_Kernel (hKernel := hKernel) (hPre_pairs_in_range := hPre_pairs_in_range)
    ∧ quiescent_KernelIdeal (hKernelIdeal := hKernelIdeal) (hPre_pairs_in_range := hPre_pairs_in_range)
    ∧ quiescent_ReferenceIdeal (hReferenceIdeal := hReferenceIdeal) (hPre_pairs_in_range := hPre_pairs_in_range)
    ∧ preserves_Kernel_KernelIdeal
    ∧ algebraic_KernelIdeal_ReferenceIdeal (hKernelIdeal := hKernelIdeal) (hReferenceIdeal := hReferenceIdeal) (hPre_pairs_in_range := hPre_pairs_in_range)
-- ==== Pre_pairs_in_range.lean ====
abbrev S4096x1000 : Shape := ⟨2, ![4096, 1000]⟩
abbrev S4096x2 : Shape := ⟨2, ![4096, 2]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel

variable [Facts]

def fn {F : FTy → Type} [FloatOps F] (main_arg0 : FVec F S4096x1000 .f32) (main_arg1 : IVec S4096x2 32) (main_arg2 : IVec S4096x2 32) : IVec S_ 1 :=
  let main_c : IVec S_ 32 := constantI S_ 32 0#32
  let main_v0 : IVec S4096x2 32 := broadcastInDim S4096x2 ![] bcast_S_S4096x2 main_c
  let main_v1 : IVec S4096x2 1 := cmpi .sge main_arg1 main_v0
  let main_c_0 : IVec S_ 1 := constantI S_ 1 1#1
  let main_v2 : IVec S_ 1 := (fun x v => Host.reduce IntOp.andi x v reducesTo_S4096x2_S_d0_1 h_S_) main_v1 main_c_0
  let main_c_1 : IVec S_ 32 := constantI S_ 32 1000#32
  let main_v3 : IVec S4096x2 32 := broadcastInDim S4096x2 ![] bcast_S_S4096x2 main_c_1
  let main_v4 : IVec S4096x2 1 := cmpi .slt main_arg1 main_v3
  let main_c_2 : IVec S_ 1 := constantI S_ 1 1#1
  let main_v5 : IVec S_ 1 := (fun x v => Host.reduce IntOp.andi x v reducesTo_S4096x2_S_d0_1 h_S_) main_v4 main_c_2
  let main_v6 : IVec S_ 1 := andi main_v2 main_v5
  let main_c_3 : IVec S_ 32 := constantI S_ 32 0#32
  let main_v7 : IVec S4096x2 32 := broadcastInDim S4096x2 ![] bcast_S_S4096x2 main_c_3
  let main_v8 : IVec S4096x2 1 := cmpi .sge main_arg2 main_v7
  let main_c_4 : IVec S_ 1 := constantI S_ 1 1#1
  let main_v9 : IVec S_ 1 := (fun x v => Host.reduce IntOp.andi x v reducesTo_S4096x2_S_d0_1 h_S_) main_v8 main_c_4
  let main_v10 : IVec S_ 1 := andi main_v6 main_v9
  let main_c_5 : IVec S_ 32 := constantI S_ 32 1000#32
  let main_v11 : IVec S4096x2 32 := broadcastInDim S4096x2 ![] bcast_S_S4096x2 main_c_5
  let main_v12 : IVec S4096x2 1 := cmpi .slt main_arg2 main_v11
  let main_c_6 : IVec S_ 1 := constantI S_ 1 1#1
  let main_v13 : IVec S_ 1 := (fun x v => Host.reduce IntOp.andi x v reducesTo_S4096x2_S_d0_1 h_S_) main_v12 main_c_6
  let main_v14 : IVec S_ 1 := andi main_v10 main_v13
  main_v14
-- ==== Kernel.lean ====
abbrev S4096x1000 : Shape := ⟨2, ![4096, 1000]⟩
abbrev S4096x2 : Shape := ⟨2, ![4096, 2]⟩
abbrev S4096x1 : Shape := ⟨2, ![4096, 1]⟩
abbrev S4096 : Shape := ⟨1, ![4096]⟩
abbrev S8x1x512 : Shape := ⟨3, ![8, 1, 512]⟩
abbrev S4096000 : Shape := ⟨1, ![4096000]⟩
abbrev S32x16 : Shape := ⟨2, ![32, 16]⟩
abbrev S64000 : Shape := ⟨1, ![64000]⟩
abbrev S16 : Shape := ⟨1, ![16]⟩
abbrev S_ : Shape := ⟨0, ![]⟩
abbrev S1x16 : Shape := ⟨2, ![1, 16]⟩
abbrev S1x1 : Shape := ⟨2, ![1, 1]⟩
abbrev S512x1000 : Shape := ⟨2, ![512, 1000]⟩
abbrev S1x1x512 : Shape := ⟨3, ![1, 1, 512]⟩
abbrev S1000x1000 : Shape := ⟨2, ![1000, 1000]⟩
abbrev S512 : Shape := ⟨1, ![512]⟩
abbrev S512x1 : Shape := ⟨2, ![512, 1]⟩
abbrev S1x1000x1000 : Shape := ⟨3, ![1, 1000, 1000]⟩
abbrev S1 : Shape := ⟨1, ![1]⟩
abbrev S1x1x1 : Shape := ⟨3, ![1, 1, 1]⟩

abbrev nBuf : Table → Nat
  | .hbm => 22
  | .local .tc .vmem => 9
  | .local .scVector .vmem => 4
  | _ => 0

abbrev bufTy : (tb : Table) → Fin (nBuf tb) → BufTy
  | .hbm, ⟨0, _⟩ => ⟨S4096x1000, .f32⟩
  | .hbm, ⟨1, _⟩ => ⟨S4096x2, .i32⟩
  | .hbm, ⟨2, _⟩ => ⟨S4096x2, .i32⟩
  | .hbm, ⟨3, _⟩ => ⟨S4096x1, .i32⟩
  | .hbm, ⟨4, _⟩ => ⟨S4096, .i32⟩
  | .hbm, ⟨5, _⟩ => ⟨S8x1x512, .i32⟩
  | .hbm, ⟨6, _⟩ => ⟨S4096x1, .i32⟩
  | .hbm, ⟨7, _⟩ => ⟨S4096, .i32⟩
  | .hbm, ⟨8, _⟩ => ⟨S8x1x512, .i32⟩
  | .hbm, ⟨9, _⟩ => ⟨S4096x1, .i32⟩
  | .hbm, ⟨10, _⟩ => ⟨S4096, .i32⟩
  | .hbm, ⟨11, _⟩ => ⟨S4096x1, .i32⟩
  | .hbm, ⟨12, _⟩ => ⟨S4096, .i32⟩
  | .hbm, ⟨13, _⟩ => ⟨S4096000, .f32⟩
  | .hbm, ⟨14, _⟩ => ⟨S32x16, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local .tc .vmem, ⟨0, _⟩ => ⟨S512x1000, .f32⟩
  | .local .tc .vmem, ⟨1, _⟩ => ⟨S512x1000, .f32⟩
  | .local .tc .vmem, ⟨2, _⟩ => ⟨S1x1x512, .i32⟩
  | .local .tc .vmem, ⟨3, _⟩ => ⟨S1x1x512, .i32⟩
  | .local .tc .vmem, ⟨4, _⟩ => ⟨S1x1x512, .i32⟩
  | .local .tc .vmem, ⟨5, _⟩ => ⟨S1x1x512, .i32⟩
  | .local .tc .vmem, ⟨6, _⟩ => ⟨S1x1, .f32⟩
  | .local .tc .vmem, ⟨7, _⟩ => ⟨S1000x1000, .f32⟩
  | .local .tc .vmem, ⟨8, _⟩ => ⟨S1000x1000, .f32⟩
  | .local .scVector .vmem, ⟨0, _⟩ => ⟨S64000, .f32⟩
  | .local .scVector .vmem, ⟨1, _⟩ => ⟨S4096, .i32⟩
  | .local .scVector .vmem, ⟨2, _⟩ => ⟨S4096, .i32⟩
  | .local .scVector .vmem, ⟨3, _⟩ => ⟨S16, .f32⟩
  | _, _ => ⟨S4096x1000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v10_scv : Ref sig .scVector := ⟨.hbm, 13, rfl⟩
abbrev main_v7_scv : Ref sig .scVector := ⟨.hbm, 10, rfl⟩
abbrev main_v9_scv : Ref sig .scVector := ⟨.hbm, 12, rfl⟩
abbrev main_v11_scv : Ref sig .scVector := ⟨.hbm, 14, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_scratch0 : Ref sig .tc := ⟨.vmem, 7, rfl⟩
abbrev cc1_scratch1 : Ref sig .tc := ⟨.vmem, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let v4 : BitVec 32 := Scalar.addi v3 c0_i32
  let c1000_i32 : BitVec 32 := 1000#32
  let v5 : BitVec 32 := Scalar.muli v4 c1000_i32
  ![v5.toNat]
@[reducible] def k0_t1_loop : Scf.Loop 32 :=
  let c0_i32_0 : BitVec 32 := 0#32
  let c256_i32 : BitVec 32 := 256#32
  let v6 : BitVec 32 := Scalar.addi c0_i32_0 c256_i32
  let c1_i32 : BitVec 32 := 1#32
  ⟨c0_i32_0, v6, c1_i32⟩
def k0_off2 (k0_t1 : Fin k0_t1_loop.trips) : Fin 1 → Nat :=
  let c0_i32_0 : BitVec 32 := 0#32
  let c1_i32 : BitVec 32 := 1#32
  let arg10 : BitVec 32 := Scf.iv c0_i32_0 c1_i32 k0_t1
  let c16_i32 : BitVec 32 := 16#32
  let v14 : BitVec 32 := Scalar.muli arg10 c16_i32
  let v15 : Index := Scalar.indexCast v14
  ![v15.toNat]
@[reducible] def k0_t2_loop : Scf.Loop 32 :=
  let c0_i32_9 : BitVec 32 := 0#32
  let c64_i32_10 : BitVec 32 := 64#32
  let v20 : BitVec 32 := Scalar.addi c0_i32_9 c64_i32_10
  let c1_i32_11 : BitVec 32 := 1#32
  ⟨c0_i32_9, v20, c1_i32_11⟩

def k0_chk1 (v24 : IVec S16 32) : Prop :=
  (∀ a x, ((![v24] : Fin 1 → IVec S16 32) a x).toNat < S64000.size a)
theorem k0_idx1_inb : ∀ (v24 : IVec S16 32) (k0_hw1 : k0_chk1 v24), ∀ a x, ((![v24] : Fin 1 → IVec S16 32) a x).toNat < S64000.size a := fun v24 k0_hw1 => k0_hw1

def k0_chk2 (v26 : IVec S16 32) : Prop :=
  (∀ a x, ((![v26] : Fin 1 → IVec S16 32) a x).toNat < S64000.size a)
theorem k0_idx2_inb : ∀ (v26 : IVec S16 32) (k0_hw2 : k0_chk2 v26), ∀ a x, ((![v26] : Fin 1 → IVec S16 32) a x).toNat < S64000.size a := fun v26 k0_hw2 => k0_hw2
@[reducible] def k0_t3_loop : Scf.Loop 32 :=
  let c0_i32_4 : BitVec 32 := 0#32
  let c256_i32_5 : BitVec 32 := 256#32
  let v11 : BitVec 32 := Scalar.addi c0_i32_4 c256_i32_5
  let c1_i32_6 : BitVec 32 := 1#32
  ⟨c0_i32_4, v11, c1_i32_6⟩
def k0_off3 (k0_t3 : Fin k0_t3_loop.trips) : Fin 1 → Nat :=
  let c0_i32_4 : BitVec 32 := 0#32
  let c1_i32_6 : BitVec 32 := 1#32
  let arg10 : BitVec 32 := Scf.iv c0_i32_4 c1_i32_6 k0_t3
  let c16_i32 : BitVec 32 := 16#32
  let v14 : BitVec 32 := Scalar.muli arg10 c16_i32
  let v15 : Index := Scalar.indexCast v14
  ![v15.toNat]
@[reducible] def k0_t4_loop : Scf.Loop 32 :=
  let c0_i32_9 : BitVec 32 := 0#32
  let c64_i32_10 : BitVec 32 := 64#32
  let v20 : BitVec 32 := Scalar.addi c0_i32_9 c64_i32_10
  let c1_i32_11 : BitVec 32 := 1#32
  ⟨c0_i32_9, v20, c1_i32_11⟩

def k0_chk3 (v24 : IVec S16 32) : Prop :=
  (∀ a x, ((![v24] : Fin 1 → IVec S16 32) a x).toNat < S64000.size a)
theorem k0_idx3_inb : ∀ (v24 : IVec S16 32) (k0_hw3 : k0_chk3 v24), ∀ a x, ((![v24] : Fin 1 → IVec S16 32) a x).toNat < S64000.size a := fun v24 k0_hw3 => k0_hw3

def k0_chk4 (v26 : IVec S16 32) : Prop :=
  (∀ a x, ((![v26] : Fin 1 → IVec S16 32) a x).toNat < S64000.size a)
theorem k0_idx4_inb : ∀ (v26 : IVec S16 32) (k0_hw4 : k0_chk4 v26), ∀ a x, ((![v26] : Fin 1 → IVec S16 32) a x).toNat < S64000.size a := fun v26 k0_hw4 => k0_hw4
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8_r4 : BitVec 32 := 0#32
  ![v1.toNat, 0]
abbrev grid1 : Pipeline.Grid := ⟨1, ![8], ![false]⟩

def k1_cond3 (i : grid1.Coords) : BitVec 1 :=
  let arg0 : BitVec 32 := BitVec.ofNat 32 (i 0).val
  let c7_i32 : BitVec 32 := 7#32
  let v27 : BitVec 1 := Scalar.cmpi .eq arg0 c7_i32
  let v28 : BitVec 32 := Scalar.extui v27
  let c0_i32_11 : BitVec 32 := 0#32
  let v29 : BitVec 1 := Scalar.cmpi .ne v28 c0_i32_11
  v29

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x1000 : Shape := ⟨2, ![4096, 1000]⟩
abbrev S4096x2 : Shape := ⟨2, ![4096, 2]⟩
abbrev S4096x1 : Shape := ⟨2, ![4096, 1]⟩
abbrev S4096 : Shape := ⟨1, ![4096]⟩
abbrev S_ : Shape := ⟨0, ![]⟩
abbrev S1 : Shape := ⟨1, ![1]⟩
abbrev S1x1 : Shape := ⟨2, ![1, 1]⟩
abbrev S4096x4096 : Shape := ⟨2, ![4096, 4096]⟩

abbrev nBuf : Space → Nat
  | .hbm => 123
  | .vmem => 0
  | .smem => 0
  | _ => 0

abbrev bufTy : (tb : Table) → Fin (tcTables nBuf tb) → BufTy
  | .hbm, ⟨0, _⟩ => ⟨S4096x1000, .f32⟩
  | .hbm, ⟨1, _⟩ => ⟨S4096x2, .i32⟩
  | .hbm, ⟨2, _⟩ => ⟨S4096x2, .i32⟩
  | .hbm, ⟨3, _⟩ => ⟨S4096x1, .i32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S1, .i32⟩
  | .hbm, ⟨14, _⟩ => ⟨S_, .i32⟩
  | .hbm, ⟨15, _⟩ => ⟨S4096x1, .i32⟩
  | .hbm, ⟨16, _⟩ => ⟨S4096x1, .i1⟩
  | .hbm, ⟨17, _⟩ => ⟨S1x1, .i32⟩
  | .hbm, ⟨18, _⟩ => ⟨S4096x1, .i32⟩
  | .hbm, ⟨19, _⟩ => ⟨S4096x1, .i1⟩
  | .hbm, ⟨20, _⟩ => ⟨S4096x1, .i1⟩
  | .hbm, ⟨21, _⟩ => ⟨S_, .i1⟩
  | .hbm, ⟨22, _⟩ => ⟨S4096, .i1⟩
  | .hbm, ⟨23, _⟩ => ⟨S4096x4096, .f32⟩
  | .hbm, ⟨24, _⟩ => ⟨S4096x4096, .i1⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x1, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S1, .i32⟩
  | .hbm, ⟨39, _⟩ => ⟨S_, .i32⟩
  | .hbm, ⟨40, _⟩ => ⟨S4096x1, .i32⟩
  | .hbm, ⟨41, _⟩ => ⟨S4096x1, .i1⟩
  | .hbm, ⟨42, _⟩ => ⟨S1x1, .i32⟩
  | .hbm, ⟨43, _⟩ => ⟨S4096x1, .i32⟩
  | .hbm, ⟨44, _⟩ => ⟨S4096x1, .i1⟩
  | .hbm, ⟨45, _⟩ => ⟨S4096x1, .i1⟩
  | .hbm, ⟨46, _⟩ => ⟨S_, .i1⟩
  | .hbm, ⟨47, _⟩ => ⟨S4096, .i1⟩
  | .hbm, ⟨48, _⟩ => ⟨S4096x4096, .f32⟩
  | .hbm, ⟨49, _⟩ => ⟨S4096x4096, .i1⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S4096x1, .i32⟩
  | .hbm, ⟨62, _⟩ => ⟨S4096, .i32⟩
  | .hbm, ⟨63, _⟩ => ⟨S_, .i32⟩
  | .hbm, ⟨64, _⟩ => ⟨S4096, .i32⟩
  | .hbm, ⟨65, _⟩ => ⟨S4096, .i1⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .i32⟩
  | .hbm, ⟨70, _⟩ => ⟨S4096x1, .i32⟩
  | .hbm, ⟨71, _⟩ => ⟨S1, .i32⟩
  | .hbm, ⟨72, _⟩ => ⟨S_, .i32⟩
  | .hbm, ⟨73, _⟩ => ⟨S4096x1, .i32⟩
  | .hbm, ⟨74, _⟩ => ⟨S4096x1, .i1⟩
  | .hbm, ⟨75, _⟩ => ⟨S1x1, .i32⟩
  | .hbm, ⟨76, _⟩ => ⟨S4096x1, .i32⟩
  | .hbm, ⟨77, _⟩ => ⟨S4096x1, .i1⟩
  | .hbm, ⟨78, _⟩ => ⟨S4096x1, .i1⟩
  | .hbm, ⟨79, _⟩ => ⟨S_, .i1⟩
  | .hbm, ⟨80, _⟩ => ⟨S4096, .i1⟩
  | .hbm, ⟨81, _⟩ => ⟨S4096x4096, .f32⟩
  | .hbm, ⟨82, _⟩ => ⟨S4096x4096, .i1⟩
  | .hbm, ⟨83, _⟩ => ⟨S_, .f32⟩
  | .hbm, ⟨84, _⟩ => ⟨S4096x4096, .f32⟩
  | .hbm, ⟨85, _⟩ => ⟨S4096x4096, .f32⟩
  | .hbm, ⟨86, _⟩ => ⟨S4096x1, .i32⟩
  | .hbm, ⟨87, _⟩ => ⟨S4096, .i32⟩
  | .hbm, ⟨88, _⟩ => ⟨S_, .i32⟩
  | .hbm, ⟨89, _⟩ => ⟨S4096, .i32⟩
  | .hbm, ⟨90, _⟩ => ⟨S4096, .i1⟩
  | .hbm, ⟨91, _⟩ => ⟨S_, .i32⟩
  | .hbm, ⟨92, _⟩ => ⟨S4096, .i32⟩
  | .hbm, ⟨93, _⟩ => ⟨S4096, .i32⟩
  | .hbm, ⟨94, _⟩ => ⟨S4096, .i32⟩
  | .hbm, ⟨95, _⟩ => ⟨S4096x1, .i32⟩
  | .hbm, ⟨96, _⟩ => ⟨S1, .i32⟩
  | .hbm, ⟨97, _⟩ => ⟨S_, .i32⟩
  | .hbm, ⟨98, _⟩ => ⟨S4096x1, .i32⟩
  | .hbm, ⟨99, _⟩ => ⟨S4096x1, .i1⟩
  | .hbm, ⟨100, _⟩ => ⟨S1x1, .i32⟩
  | .hbm, ⟨101, _⟩ => ⟨S4096x1, .i32⟩
  | .hbm, ⟨102, _⟩ => ⟨S4096x1, .i1⟩
  | .hbm, ⟨103, _⟩ => ⟨S4096x1, .i1⟩
  | .hbm, ⟨104, _⟩ => ⟨S_, .i1⟩
  | .hbm, ⟨105, _⟩ => ⟨S4096, .i1⟩
  | .hbm, ⟨106, _⟩ => ⟨S4096x4096, .f32⟩
  | .hbm, ⟨107, _⟩ => ⟨S4096x4096, .i1⟩
  | .hbm, ⟨108, _⟩ => ⟨S_, .f32⟩
  | .hbm, ⟨109, _⟩ => ⟨S4096x4096, .f32⟩
  | .hbm, ⟨110, _⟩ => ⟨S4096x4096, .f32⟩
  | .hbm, ⟨111, _⟩ => ⟨S4096x4096, .f32⟩
  | .hbm, ⟨112, _⟩ => ⟨S_, .f32⟩
  | .hbm, ⟨113, _⟩ => ⟨S4096x4096, .f32⟩
  | .hbm, ⟨114, _⟩ => ⟨S4096x4096, .f32⟩
  | .hbm, ⟨115, _⟩ => ⟨S_, .f32⟩
  | .hbm, ⟨116, _⟩ => ⟨S4096, .f32⟩
  | .hbm, ⟨117, _⟩ => ⟨S_, .f32⟩
  | .hbm, ⟨118, _⟩ => ⟨S4096, .f32⟩
  | .hbm, ⟨119, _⟩ => ⟨S4096, .f32⟩
  | .hbm, ⟨120, _⟩ => ⟨S_, .f32⟩
  | .hbm, ⟨121, _⟩ => ⟨S_, .f32⟩
  | .hbm, ⟨122, _⟩ => ⟨S_, .f32⟩
  | _, _ => ⟨S4096x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩
abbrev main_cst : Ref sig .tc := ⟨.hbm, 54, rfl⟩
abbrev main_v7 : Ref sig .tc := ⟨.hbm, 55, rfl⟩
abbrev main_cst_0 : Ref sig .tc := ⟨.hbm, 56, rfl⟩
abbrev main_v8 : Ref sig .tc := ⟨.hbm, 57, rfl⟩
abbrev main_v9 : Ref sig .tc := ⟨.hbm, 58, rfl⟩
abbrev main_cst_1 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v13 : Ref sig .tc := ⟨.hbm, 85, rfl⟩
abbrev main_v14 : Ref sig .tc := ⟨.hbm, 86, rfl⟩
abbrev main_v15 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v16 : Ref sig .tc := ⟨.hbm, 110, rfl⟩
abbrev main_v17 : Ref sig .tc := ⟨.hbm, 111, rfl⟩
abbrev main_call4_cst : Ref sig .tc := ⟨.hbm, 112, rfl⟩
abbrev main_call4_v0 : Ref sig .tc := ⟨.hbm, 113, rfl⟩
abbrev main_v18 : Ref sig .tc := ⟨.hbm, 114, rfl⟩
abbrev main_cst_2 : Ref sig .tc := ⟨.hbm, 115, rfl⟩
abbrev main_v19 : Ref sig .tc := ⟨.hbm, 116, rfl⟩
abbrev main_cst_3 : Ref sig .tc := ⟨.hbm, 117, rfl⟩
abbrev main_v20 : Ref sig .tc := ⟨.hbm, 118, rfl⟩
abbrev main_v21 : Ref sig .tc := ⟨.hbm, 119, rfl⟩
abbrev main_cst_4 : Ref sig .tc := ⟨.hbm, 120, rfl⟩
abbrev main_v22 : Ref sig .tc := ⟨.hbm, 121, rfl⟩
abbrev main_v23 : Ref sig .tc := ⟨.hbm, 122, rfl⟩

abbrev nD : Nat := 1
abbrev τ : Topo := Topo.v7x

variable {F : FTy → Type} [FloatOps F]
-- ==== Proof.Bits.TileValue.lean ====
/-
  # What one tile computes

  Over any float values: the sum a tile forms, lane by lane, of the positive parts of the differences between two columns
  of its rows. The order of the additions is the program's: half by half, chunk by chunk of sixteen pairs, row by row.
-/
module

public import proofs.«01_k».proof.Proof.Bits.Common

@[expose] public section

noncomputable section

namespace Cert.Proof.LossBits

open Cert.Kernel Cert.Kernel.Gen
open Idealize.ShloMosaic

variable {F : FTy → Type} [FloatOps F]

/-- The index of a one-dimensional array at a natural number, reduced into range. -/
def iSlab (n : ℕ) : S64000.Idx := fun a => ⟨n % S64000.size a, Nat.mod_lt _ (by revert a; decide)⟩
def iPair (n : ℕ) : S4096.Idx := fun a => ⟨n % S4096.size a, Nat.mod_lt _ (by revert a; decide)⟩
def iFlat (n : ℕ) : S4096000.Idx := fun a => ⟨n % S4096000.size a, Nat.mod_lt _ (by revert a; decide)⟩
def iLane (n : ℕ) : S16.Idx := fun a => ⟨n % S16.size a, Nat.mod_lt _ (by revert a; decide)⟩

/-- Sixteen indices: chunk `j` of a list of 4096. -/
def lanes (I : Vec F S4096 .i32) (j : ℕ) : IVec S16 32 := fun l => I (iPair (16 * j + (l 0).val))

/-- One row added to the running sum: row `t` of the slab, the columns `va` and `vb`. -/
def rowStep (slab : Vec F S64000 .f32) (va vb : IVec S16 32) (t : ℕ) (acc : FVec F S16 .f32) : FVec F S16 .f32 :=
  addf acc (maximumf (subf (fun l => slab (iSlab (1000 * t + (va l).toNat)) : FVec F S16 .f32) (fun l => slab (iSlab (1000 * t + (vb l).toNat))))
    (broadcast S16 (Scalar.ofBits .f32 0x00000000#32)))

/-- The first `t` rows of the slab added to `acc`. -/
def rowFold (slab : Vec F S64000 .f32) (va vb : IVec S16 32) (acc : FVec F S16 .f32) : ℕ → FVec F S16 .f32
  | 0 => acc
  | t + 1 => rowStep slab va vb t (rowFold slab va vb acc t)

/-- The first `j` chunks of pairs, all 64 rows of the slab each. -/
def chunkFold (slab : Vec F S64000 .f32) (A B : Vec F S4096 .i32) (acc : FVec F S16 .f32) : ℕ → FVec F S16 .f32
  | 0 => acc
  | j + 1 => rowFold slab (lanes A j) (lanes B j) (chunkFold slab A B acc j) 64

/-- Half `h` of worker `w`'s rows, flat. -/
def slabOf (X : Vec F S4096000 .f32) (w h : ℕ) : Vec F S64000 .f32 := fun x => X (iFlat (128000 * w + 64000 * h + (x 0).val))

/-- The first half's sums, and the sums a worker writes. -/
def halfVal (X : Vec F S4096000 .f32) (A B : Vec F S4096 .i32) (w : ℕ) : FVec F S16 .f32 :=
  chunkFold (slabOf X w 0) A B (broadcast S16 (Scalar.ofBits .f32 0x00000000#32)) 256
def tileVal (X : Vec F S4096000 .f32) (A B : Vec F S4096 .i32) (w : ℕ) : FVec F S16 .f32 :=
  chunkFold (slabOf X w 1) A B (halfVal X A B w) 256

/-- The 32 by 16 array of partial sums. -/
def partials (X : Vec F S4096000 .f32) (A B : Vec F S4096 .i32) : Vec F S32x16 .f32 :=
  fun x => tileVal X A B (x 0).val (iLane (x 1).val)

/-- Every entry of a list of indices names one of the thousand columns. -/
def InRange (I : Vec F S4096 .i32) : Prop := ∀ x, (show BitVec 32 from I x).toNat < 1000

end Cert.Proof.LossBits
-- ==== Proof.Bits.TcValue.lean ====
/-
  # What the TensorCore kernel computes

  Over any float values: the sum, block by block of 512 rows, of the products of the predictions with themselves; the
  same of the one-hot rows of the two lists of indices; and the sum of the two arrays' products, the scalar it writes.
-/
module

public import proofs.«01_k».proof.Proof.Bits.Common

@[expose] public section

noncomputable section

namespace Cert.Proof.LossBits

open Cert.Kernel Cert.Kernel.Gen
open Idealize.ShloMosaic

variable {F : FTy → Type} [FloatOps F]

/-- Row `r`, column `c` of the predictions; entry `k` of block `t` of a list of indices; both reduced into range. -/
def iMat (r c : ℕ) : S4096x1000.Idx := fun a =>
  ⟨(match a with | 0 => r | 1 => c) % S4096x1000.size a, Nat.mod_lt _ (by revert a; decide)⟩
def iBlk (t k : ℕ) : S8x1x512.Idx := fun a =>
  ⟨(match a with | 0 => t | 1 => 0 | 2 => k) % S8x1x512.size a, Nat.mod_lt _ (by revert a; decide)⟩

/-- Block `t`: 512 rows of the predictions, 512 entries of a list. -/
def matBlk (P : Vec F S4096x1000 .f32) (t : ℕ) : Vec F S512x1000 .f32 := fun x => P (iMat (512 * t + (x 0).val) (x 1).val)
def idxBlk (I : Vec F S8x1x512 .i32) (t : ℕ) : Vec F S1x1x512 .i32 := fun x => I (iBlk t (x 2).val)

/-- The sum of the first `n + 1` blocks' products, of the predictions and of the one-hot rows. -/
def gramAcc (P : Vec F S4096x1000 .f32) : ℕ → Vec F S1000x1000 .f32
  | 0 => k1_pay3 (matBlk P 0)
  | n + 1 => k1_pay5 (matBlk P (n + 1)) (gramAcc P n)
def maskAcc (A B : Vec F S8x1x512 .i32) : ℕ → Vec F S1000x1000 .f32
  | 0 => k1_pay4 (idxBlk A 0) (idxBlk B 0)
  | n + 1 => k1_pay6 (idxBlk A (n + 1)) (idxBlk B (n + 1)) (maskAcc A B n)

/-- The scalar written at the last point. -/
def mutexVal (P : Vec F S4096x1000 .f32) (A B : Vec F S8x1x512 .i32) : Vec F S1x1 .f32 :=
  k1_pay7 (gramAcc P 7) (maskAcc A B 7)

end Cert.Proof.LossBits
-- ==== Proof.Pre.lean ====
/-
  # The precondition, read: every index of the two pair lists is below 1000
-/
module

public import proofs.«01_k».proof.Proof.Gen.Pre_pairs_in_range
public import Idealize.ShloMosaic.Lib.ReduceAll
public import Idealize.ShloMosaic.Lib.WordCmp

@[expose] public section

noncomputable section

namespace Cert.Proof.Loss

open Idealize.ShloMosaic

theorem range_of_bits (v : BitVec 32) (h0 : IntOp.cmpi .sge v 0#32 = 1#1) (h1 : IntOp.cmpi .slt v 1000#32 = 1#1) : v.toNat < 1000 := by
  have e := WordCmp.andi_sge_zero_slt_ofNat (w := 32) (k := 1000) (by decide) v
  rw [h0, h1] at e
  by_contra hn
  rw [decide_eq_false hn] at e
  exact absurd e (by decide)

theorem range_of_pre {F : FTy → Type} [FloatOps F] (P : FVec F Cert.Pre_pairs_in_range.S4096x1000 .f32) (I J : IVec Cert.Pre_pairs_in_range.S4096x2 32)
    (h : Cert.Pre_pairs_in_range.fn P I J = fun _ => 1#1) : (∀ x, (I x).toNat < 1000) ∧ ∀ x, (J x).toNat < 1000 := by
  have e := congrFun h (fun a => a.elim0)
  have andi_one : ∀ p q : BitVec 1, IntOp.andi p q = 1#1 → p = 1#1 ∧ q = 1#1 := by decide
  haveI : Subsingleton Cert.Pre_pairs_in_range.S_.Idx := ⟨fun a b => funext fun i => i.elim0⟩
  simp only [Cert.Pre_pairs_in_range.fn, andi] at e
  obtain ⟨e, e4⟩ := andi_one _ _ e
  obtain ⟨e, e3⟩ := andi_one _ _ e
  obtain ⟨e1, e2⟩ := andi_one _ _ e
  exact ⟨fun x => range_of_bits _ (Host.reduce_andi_all _ _ _ _ _ e1 x) (Host.reduce_andi_all _ _ _ _ _ e2 x),
    fun x => range_of_bits _ (Host.reduce_andi_all _ _ _ _ _ e3 x) (Host.reduce_andi_all _ _ _ _ _ e4 x)⟩

end Cert.Proof.Loss
-- ==== Proof.Bits.Frame.lean ====
/-
  # The frame of the kernel at the bits
-/
module

public import proofs.«01_k».proof.Proof.Bits.Contents
public import proofs.«01_k».proof.Proof.Pre

@[expose] public section

noncomputable section

namespace Cert.Proof.LossBits

open Cert.Kernel Cert.Kernel.Gen

open Idealize.ShloMosaic Idealize.SL.Sem

variable {F : FTy → Type} [FloatOps F]

/-- The kernel's run: the result and the arguments at the end, from indices in range. -/
theorem run_kernel [∀ e, Nonempty (Elt F e)] (m : (ℓ : Loc nD τ sig) → Buf (Elt F) ℓ) (ρ : Dev nD → PrngReg)
    (h : ∀ d, Cert.Pre_pairs_in_range.fn (Pm m d) (Im m d) (Jm m d) = fun _ => 1#1) :
    θ_run (Cert.Kernel.defs (F := F)) (Cert.Kernel.threads (F := F)) ⟨m, fun _ => 0, ρ⟩ fun r =>
      (∀ c : Dev nD, r.2.mem ((c.tc : Thread nD τ).loc main_v16) = lossVal (Pm m c) (Im m c) (Jm m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run (Cert.Kernel.defs (F := F)) _ _).mono
    (fun _ hr => ⟨fun c => ⟨(hr.1 c _ (mem_ucRefs main_v16 rfl)).trans (V4_v16 m c), (hr.1 c _ (mem_ucRefs main_arg0 rfl)).trans (V4_arg0 m c),
      (hr.1 c _ (mem_ucRefs main_arg1 rfl)).trans (V4_arg1 m c), (hr.1 c _ (mem_ucRefs main_arg2 rfl)).trans (V4_arg2 m c)⟩, hr.2⟩)
    (run_main m ρ (fun d => by rw [A1_eq]; exact col0_range _ (Loss.range_of_pre _ _ _ (h d)).2)
      (fun d => by rw [B1_eq]; exact col1_range _ (Loss.range_of_pre _ _ _ (h d)).2))

/-- The kernel as it runs on the bits leaves its arguments alone and every counter at zero. -/
theorem frame_kernel : Cert.quiescent_Kernel := fun m ρ h =>
  (θ_run (Cert.Kernel.defs (F := Bits)) _ _).mono (fun _ hr => ⟨fun c => (hr.1 c).2, hr.2⟩) (run_kernel (F := Bits) m ρ h)

end Cert.Proof.LossBits
-- ==== Proof.Common.lean ====
/-
  # The program as the launch theorem sees it

  The names every later module uses: the launch configuration `K`, the definitions under it, the resource algebra (the
  handshakes' rounds, the TensorCore pipeline's rounds, the counters of the local copies), and the locations of the arrays
  the SparseCore call reads and writes.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, the copies' counters. -/
abbrev UH : Type := URounds (GSem nD τ sig) ℕ
abbrev UP : Type := UR sig nD τ
abbrev UU : Type := UH × (UP × Counters)

/-- The type of assertions' resources, abbreviated. -/
abbrev MM (F : FTy → Type) : Type := MT nD τ sig (HIx 1) (Elt F) ℕ UU ℕ

abbrev EH : Emb UH (MM F) := embL
def EP : Emb UP (MM F) := (Emb.inl : Emb UP (UP × Counters)).trans embR

instance EP_landsIn : (EP : Emb UP (MM F)).LandsIn (upEmb : UEmb _ (MM F)) := by unfold EP embR; infer_instance

end Cert.Proof.Loss
-- ==== Proof.TileValue.lean ====
/-
  # What one tile computes

  Over any float values: the sum a tile forms, lane by lane, of the positive parts of the differences between two columns
  of its rows. The order of the additions is the program's: half by half, chunk by chunk of sixteen pairs, row by row.
-/
module

public import proofs.«01_k».proof.Proof.Common

@[expose] public section

noncomputable section

namespace Cert.Proof.Loss

open Cert.KernelIdeal Cert.KernelIdeal.Gen
open Idealize.ShloMosaic

variable {F : FTy → Type} [FloatOps F]

/-- The index of a one-dimensional array at a natural number, reduced into range. -/
def iSlab (n : ℕ) : S64000.Idx := fun a => ⟨n % S64000.size a, Nat.mod_lt _ (by revert a; decide)⟩
def iPair (n : ℕ) : S4096.Idx := fun a => ⟨n % S4096.size a, Nat.mod_lt _ (by revert a; decide)⟩
def iFlat (n : ℕ) : S4096000.Idx := fun a => ⟨n % S4096000.size a, Nat.mod_lt _ (by revert a; decide)⟩
def iLane (n : ℕ) : S16.Idx := fun a => ⟨n % S16.size a, Nat.mod_lt _ (by revert a; decide)⟩

/-- Sixteen indices: chunk `j` of a list of 4096. -/
def lanes (I : Vec F S4096 .i32) (j : ℕ) : IVec S16 32 := fun l => I (iPair (16 * j + (l 0).val))

/-- One row added to the running sum: row `t` of the slab, the columns `va` and `vb`. -/
def rowStep (slab : Vec F S64000 .f32) (va vb : IVec S16 32) (t : ℕ) (acc : FVec F S16 .f32) : FVec F S16 .f32 :=
  addf acc (maximumf (subf (fun l => slab (iSlab (1000 * t + (va l).toNat)) : FVec F S16 .f32) (fun l => slab (iSlab (1000 * t + (vb l).toNat))))
    (broadcast S16 (Scalar.ofBits .f32 0x00000000#32)))

/-- The first `t` rows of the slab added to `acc`. -/
def rowFold (slab : Vec F S64000 .f32) (va vb : IVec S16 32) (acc : FVec F S16 .f32) : ℕ → FVec F S16 .f32
  | 0 => acc
  | t + 1 => rowStep slab va vb t (rowFold slab va vb acc t)

/-- The first `j` chunks of pairs, all 64 rows of the slab each. -/
def chunkFold (slab : Vec F S64000 .f32) (A B : Vec F S4096 .i32) (acc : FVec F S16 .f32) : ℕ → FVec F S16 .f32
  | 0 => acc
  | j + 1 => rowFold slab (lanes A j) (lanes B j) (chunkFold slab A B acc j) 64

/-- Half `h` of worker `w`'s rows, flat. -/
def slabOf (X : Vec F S4096000 .f32) (w h : ℕ) : Vec F S64000 .f32 := fun x => X (iFlat (128000 * w + 64000 * h + (x 0).val))

/-- The first half's sums, and the sums a worker writes. -/
def halfVal (X : Vec F S4096000 .f32) (A B : Vec F S4096 .i32) (w : ℕ) : FVec F S16 .f32 :=
  chunkFold (slabOf X w 0) A B (broadcast S16 (Scalar.ofBits .f32 0x00000000#32)) 256
def tileVal (X : Vec F S4096000 .f32) (A B : Vec F S4096 .i32) (w : ℕ) : FVec F S16 .f32 :=
  chunkFold (slabOf X w 1) A B (halfVal X A B w) 256

/-- The 32 by 16 array of partial sums. -/
def partials (X : Vec F S4096000 .f32) (A B : Vec F S4096 .i32) : Vec F S32x16 .f32 :=
  fun x => tileVal X A B (x 0).val (iLane (x 1).val)

/-- Every entry of a list of indices names one of the thousand columns. -/
def InRange (I : Vec F S4096 .i32) : Prop := ∀ x, (show BitVec 32 from I x).toNat < 1000

end Cert.Proof.Loss
-- ==== Proof.Tile.lean ====
/-
  # The task of one tile

  The body of the SparseCore kernel run once, at a symbolic pair of SparseCore and tile: from read shares of the flat
  predictions and of the two lists of indices, and this tile's row of the result, the row comes back at `partials`.
-/
module

public import proofs.«01_k».proof.Proof.TileValue

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-- The arrays of the call, as locations of device `d`: flat predictions, the two lists of indices, the partial sums. -/
abbrev xLoc (d : Dev nD) : Loc nD τ sig := (SparseCore.T d).loc main_v10
abbrev aLoc (d : Dev nD) : Loc nD τ sig := (SparseCore.T d).loc main_v7
abbrev bLoc (d : Dev nD) : Loc nD τ sig := (SparseCore.T d).loc main_v9
abbrev oLoc (d : Dev nD) : Loc nD τ sig := (SparseCore.T d).loc main_v11

/-- The kernel's memrefs. -/
abbrev xV : Memref sig .scVector .hbm S4096000 .f32 := Memref.whole main_v10_scv
abbrev aV : Memref sig .scVector .hbm S4096 .i32 := Memref.whole main_v7_scv
abbrev bV : Memref sig .scVector .hbm S4096 .i32 := Memref.whole main_v9_scv
abbrev oV : Memref sig .scVector .hbm S32x16 .f32 := Memref.whole main_v11_scv
abbrev sX : Memref sig .scVector .vmem S64000 .f32 := Memref.whole cc0_scratch0
abbrev sA : Memref sig .scVector .vmem S4096 .i32 := Memref.whole cc0_scratch1
abbrev sB : Memref sig .scVector .vmem S4096 .i32 := Memref.whole cc0_scratch2
abbrev sO : Memref sig .scVector .vmem S16 .f32 := Memref.whole cc0_scratch3

/-! ## The rows of the result -/

/-- Worker `w`'s row of the 32 by 16 array. -/
def rowSet (w : ℕ) : Finset S32x16.Idx := Finset.univ.filter fun x => (x 0).val = w

/-- The arrays at a share: the three read, and a set of the result's elements. -/
abbrev xPts (d : Dev nD) (q : PosShare TreeShare) (X : Vec F S4096000 .f32) : sProp 𝕄 := xLoc d ↦{q} (X : Buf (Elt F) (xLoc d))
abbrev aPts (d : Dev nD) (q : PosShare TreeShare) (A : Vec F S4096 .i32) : sProp 𝕄 := aLoc d ↦{q} (A : Buf (Elt F) (aLoc d))
abbrev bPts (d : Dev nD) (q : PosShare TreeShare) (B : Vec F S4096 .i32) : sProp 𝕄 := bLoc d ↦{q} (B : Buf (Elt F) (bLoc d))
abbrev oPts (d : Dev nD) (s : Finset S32x16.Idx) (f : Vec F S32x16 .f32) : sProp 𝕄 := oLoc d ↦[(s : Finset (Idx (oLoc d)))]{fullShare} (f : Buf (Elt F) (oLoc d))

section Tile

variable (d : Dev nD) (L : grid0.Coords)

abbrev cV (L : grid0.Coords) : Fin τ.nSC := (L 0).castLE hcore0
abbrev jV (L : grid0.Coords) : Fin τ.nSub := (L 1).castLE hsub0
/-- The worker's number. -/
abbrev wV (L : grid0.Coords) : ℕ := 2 * (L 1).val + (L 0).val

abbrev xRow0 (L : grid0.Coords) : Memref sig .scVector .hbm S64000 .f32 :=
  xV.slice (Rect.unit (s := S4096000) (k0_off1 L 0#32) S64000.size (k0_off1_inb L 0)) (fun _ => rfl)
abbrev xRow1 (L : grid0.Coords) : Memref sig .scVector .hbm S64000 .f32 :=
  xV.slice (Rect.unit (s := S4096000) (k0_off1 L 64#32) S64000.size (k0_off1_inb L 1)) (fun _ => rfl)
abbrev oRow (L : grid0.Coords) : Memref sig .scVector .hbm S16 .f32 :=
  (oV.slice (Rect.unit (s := S32x16) (k0_off4 L) S1x16.size (k0_off4_inb L)) (fun _ => rfl)).squeeze S16 squeezes_S1x16_S16

theorem reshape16 : ∀ y : S16.Idx,
    ((Shape.reshapeEquiv (s := S1x16) (s' := S16) squeezes_S1x16_S16.numel_eq) y 1).val = (y 0).val := by decide +kernel

/-- Element `y` of the row the task writes is element `y` of row `w` of the array. -/
theorem oRow_emb (y : S16.Idx) : (((oRow L).view.emb y) 0).val = wV L ∧ (((oRow L).view.emb y) 1).val = (y 0).val := by
  constructor
  · show (k0_off4 L) 0 + 1 * ((Shape.reshapeEquiv (s := S1x16) (s' := S16) squeezes_S1x16_S16.numel_eq) y 0).val = _
    have h := ((Shape.reshapeEquiv (s := S1x16) (s' := S16) squeezes_S1x16_S16.numel_eq) y 0).isLt
    rw [k0_off4_eq]
    have h' : ((Shape.reshapeEquiv (s := S1x16) (s' := S16) squeezes_S1x16_S16.numel_eq) y 0).val < 1 := h
    simp; omega
  · show (k0_off4 L) 1 + 1 * ((Shape.reshapeEquiv (s := S1x16) (s' := S16) squeezes_S1x16_S16.numel_eq) y 1).val = _
    rw [reshape16, k0_off4_eq]; simp

theorem set_oRow : (oRow L).view.set = rowSet (wV L) := by
  show ((oV.view.slice (Rect.unit (s := S32x16) (k0_off4 L) S1x16.size (k0_off4_inb L))).reshape S16 squeezes_S1x16_S16.numel_eq).set = _
  rw [View.set_reshape]
  refine (View.set_slice_whole main_v11_scv (Rect.unit (s := S32x16) (k0_off4 L) S1x16.size (k0_off4_inb L))).trans ?_
  ext x
  refine Rect.mem_set_unit.trans ?_
  simp only [rowSet, Finset.mem_filter, Finset.mem_univ, true_and, k0_off4_eq]
  have h1 : (x 1).val < 16 := (x 1).isLt
  constructor
  · intro h
    have := h 0
    simp [S1x16] at this
    show (x 0).val = 2 * (L 1).val + (L 0).val
    omega
  · intro h a
    have h' : (x 0).val = 2 * (L 1).val + (L 0).val := h
    match a with
    | 0 => simp [S1x16]; omega
    | 1 => simp [S1x16]; exact h1

/-- A chunk's load reads the chunk. -/
theorem load_lanes (j : Fin k0_t1_loop.trips) (I : Vec F S4096 .i32) :
    (sA.view.readAt (Elt F) (Rect.unit (s := S4096) (k0_off2 j) S16.size (k0_off2_inb j)).toLoadRect I : IVec S16 32) = lanes (F := F) I j.val := by
  funext l
  show I _ = I _
  congr 1
  funext (a : Fin 1)
  apply Fin.ext
  obtain rfl : a = 0 := Subsingleton.elim _ _
  show (k0_off2 j) 0 + 1 * (l 0).val = (16 * j.val + (l 0).val) % 4096
  have h1 : (l 0).val < 16 := (l 0).isLt
  have h2 : j.val < 256 := lt_of_lt_of_le j.isLt k0_t1_abs.2.1
  have e : (k0_off2 j) 0 = 16 * j.val := congrFun (k0_off2_eq j) 0
  generalize (k0_off2 j) 0 = n at e
  omega

/-- The slabs the program copies are the worker's halves. -/
theorem read_slab (r : Fin 2) (X : Vec F S4096000 .f32) :
    (xV.slice (Rect.unit (s := S4096000) (k0_off1 L (BitVec.ofNat 32 (64 * r.val))) S64000.size (k0_off1_inb L r)) (fun _ => rfl)).view.read (Elt F) X
      = slabOf X (wV L) r.val := by
  funext x
  show X _ = X _
  congr 1
  funext (a : Fin 1)
  apply Fin.ext
  obtain rfl : a = 0 := Subsingleton.elim _ _
  show (k0_off1 L (BitVec.ofNat 32 (64 * r.val))) 0 + 1 * (x 0).val = (128000 * (2 * (L 1).val + (L 0).val) + 64000 * r.val + (x 0).val) % 4096000
  have h1 : (x 0).val < 64000 := (x 0).isLt
  have h2 : (L 0).val < 2 := (L 0).isLt
  have h3 : (L 1).val < 16 := (L 1).isLt
  have h4 : r.val < 2 := r.isLt
  have e : (k0_off1 L (BitVec.ofNat 32 (64 * r.val))) 0 = 256000 * (L 1).val + 128000 * (L 0).val + 64000 * r.val := congrFun (k0_off1_eq L r) 0
  generalize (k0_off1 L (BitVec.ofNat 32 (64 * r.val))) 0 = n at e
  omega

/-- The address of a gather, `row * 1000 + column`, does not wrap. -/
theorem addr_toNat (t : Fin k0_t2_loop.trips) (v : IVec S16 32) (x : S16.Idx) (h : (v x).toNat < 1000) :
    ((addi (k0_pay2 t) v) x).toNat = 1000 * t.val + (v x).toNat := by
  have ht : t.val < 64 := lt_of_lt_of_le t.isLt k0_t2_abs.2.1
  show (Scalar.muli (Scf.iv 0#32 1#32 t) 1000#32 + v x).toNat = _
  have h1 : (Scalar.muli (Scf.iv 0#32 1#32 t) 1000#32) = BitVec.ofNat 32 (1000 * t.val) := by
    show (0#32 + BitVec.ofNat 32 t.val * 1#32) * 1000#32 = _
    apply BitVec.eq_of_toNat_eq
    simp
    omega
  rw [h1, BitVec.toNat_add, BitVec.toNat_ofNat]
  omega

theorem chk_of_lt (t : Fin k0_t2_loop.trips) (v : IVec S16 32) (h : ∀ x, (v x).toNat < 1000) : k0_chk1 (addi (k0_pay2 t) v) := by
  intro a x
  obtain rfl : a = 0 := Subsingleton.elim _ _
  show ((addi (k0_pay2 t) v) x).toNat < 64000
  have ht : t.val < 64 := lt_of_lt_of_le t.isLt k0_t2_abs.2.1
  rw [addr_toNat t v x (h x)]
  have := h x
  omega

/-- One gather: sixteen entries of row `t` of the slab. -/
theorem gather_eq (t : Fin k0_t2_loop.trips) (v : IVec S16 32) (hv : ∀ x, (v x).toNat < 1000) (slab : Vec F S64000 .f32)
    (h : ∀ a x, ((![addi (k0_pay2 t) v] : Fin 1 → IVec S16 32) a x).toNat < S64000.size a) :
    (loadIdx slab ![addi (k0_pay2 t) v] h : Vec F S16 .f32) = fun l => slab (iSlab (1000 * t.val + (v l).toNat)) := by
  funext l
  show slab _ = slab _
  congr 1
  funext a
  apply Fin.ext
  obtain rfl : a = 0 := Subsingleton.elim _ _
  show ((addi (k0_pay2 t) v) l).toNat = (1000 * t.val + (v l).toNat) % 64000
  have ht : t.val < 64 := lt_of_lt_of_le t.isLt k0_t2_abs.2.1
  have := hv l
  rw [addr_toNat t v l (hv l), Nat.mod_eq_of_lt (by omega)]

theorem lanes_lt {I : Vec F S4096 .i32} (h : InRange I) (j : ℕ) (x : S16.Idx) : (lanes (F := F) I j x).toNat < 1000 := h _

/-! ## The loops -/

abbrev VT (d : Dev nD) (L : grid0.Coords) : Thread nD τ := V d (cV L) (jV L)

/-- The invariant of the inner loop: the slab held, the sum of the first `k` rows carried. -/
def inv2 (slab : Vec F S64000 .f32) (va vb : IVec S16 32) (acc : FVec F S16 .f32) (k : Nat) (s : FVec F S16 .f32) : sProp 𝕄 :=
  iprop(⌜s = rowFold slab va vb acc k⌝ ∗ (sX.view.loc (VT d L) ↦{fullShare} (slab : Buf (Elt F) (sX.view.loc (VT d L)))))

/-- The invariant of the outer loop: the slab and the two lists held, the sum of the first `k` chunks carried. -/
def inv1 (slab : Vec F S64000 .f32) (A B : Vec F S4096 .i32) (acc : FVec F S16 .f32) (k : Nat) (s : FVec F S16 .f32) : sProp 𝕄 :=
  iprop(⌜s = chunkFold slab A B acc k⌝ ∗ (sX.view.loc (VT d L) ↦{fullShare} (slab : Buf (Elt F) (sX.view.loc (VT d L))))
    ∗ (sA.view.loc (VT d L) ↦{fullShare} (A : Buf (Elt F) (sA.view.loc (VT d L))))
    ∗ (sB.view.loc (VT d L) ↦{fullShare} (B : Buf (Elt F) (sB.view.loc (VT d L)))))

theorem read_sX (f : Vec F S64000 .f32) : (sX.access (.whole S64000)).read (Elt F) f = f := by
  funext x
  show f _ = f x
  congr 1
  funext (a : Fin 1)
  apply Fin.ext
  show 0 + 1 * (x a).val = (x a).val
  omega

theorem row_region (slab : Vec F S64000 .f32) (va vb : IVec S16 32) (hva : ∀ x, (va x).toNat < 1000) (hvb : ∀ x, (vb x).toNat < 1000)
    (acc : FVec F S16 .f32) (k : Fin k0_t2_loop.trips) (s : FVec F S16 .f32) :
    inv2 d L slab va vb acc k.val s
      ⊢ wp frame (wpE (defs₀ (F := F)) 𝒱₀ (VT d L) none) Set.univ
          (k0_t2_body L xV (Memref.isWhole_whole _) aV (Memref.isWhole_whole _) bV (Memref.isWhole_whole _) oV (Memref.isWhole_whole _)
            sX (Memref.isWhole_whole _) sA (Memref.isWhole_whole _) sB (Memref.isWhole_whole _) sO (Memref.isWhole_whole _)
            cc0_scoped0 cc0_scoped1 cc0_scoped2 cc0_scoped3 cc0_scoped4 va vb k s)
          fun s' => inv2 d L slab va vb acc (k.val + 1) s' := by
  unfold inv2 k0_t2_body
  simp only [Prog.lift, Prog.bind_op, Prog.bind_ret, Prog.pure_eq_ret]
  iintro ⟨%hs, Hx⟩
  rw [wp_assume_of _ _ _ _ (chk_of_lt k va hva)]
  iapply (SparseCore.wp_vectorLoadIdx 𝒱₀ (VT d L) none Set.univ (base := sX) (S := Finset.univ) (q := fullShare) (Finset.subset_univ _)) $$ Hx; iintro Hx
  rw [wp_assume_of _ _ _ _ (show k0_chk2 (addi (k0_pay2 k) vb) from chk_of_lt k vb hvb)]
  iapply (SparseCore.wp_vectorLoadIdx 𝒱₀ (VT d L) none Set.univ (base := sX) (S := Finset.univ) (q := fullShare) (Finset.subset_univ _)) $$ Hx; iintro Hx
  rw [wp_ret]; imodintro
  isplitr
  · ipureintro
    subst hs
    rw [read_sX, gather_eq k va hva, gather_eq k vb hvb]
    rfl
  · iexact Hx

theorem chunk_region (slab : Vec F S64000 .f32) (A B : Vec F S4096 .i32) (hA : InRange A) (hB : InRange B)
    (acc : FVec F S16 .f32) (j : Fin k0_t1_loop.trips) (s : FVec F S16 .f32) :
    inv1 d L slab A B acc j.val s
      ⊢ wp frame (wpE (defs₀ (F := F)) 𝒱₀ (VT d L) none) Set.univ
          (k0_t1_body L xV (Memref.isWhole_whole _) aV (Memref.isWhole_whole _) bV (Memref.isWhole_whole _) oV (Memref.isWhole_whole _)
            sX (Memref.isWhole_whole _) sA (Memref.isWhole_whole _) sB (Memref.isWhole_whole _) sO (Memref.isWhole_whole _)
            cc0_scoped0 cc0_scoped1 cc0_scoped2 cc0_scoped3 cc0_scoped4 j s)
          fun s' => inv1 d L slab A B acc (j.val + 1) s' := by
  unfold inv1 k0_t1_body
  simp only [Prog.lift, Prog.bind_op, Prog.bind_ret, Prog.pure_eq_ret]
  iintro ⟨%hs, Hx, Ha, Hb⟩
  iapply (wp_load 𝒱₀ (VT d L) none Set.univ (m := sA) (S := Finset.univ) (Finset.subset_univ _)) $$ Ha; iintro Ha
  iapply (wp_load 𝒱₀ (VT d L) none Set.univ (m := sB) (S := Finset.univ) (Finset.subset_univ _)) $$ Hb; iintro Hb
  have eA : (sA.view.readAt (Elt F) (Rect.unit (s := S4096) (k0_off2 j) S16.size (k0_off2_inb j)).toLoadRect A : IVec S16 32) = lanes (F := F) A j.val := load_lanes j A
  have eB : (sB.view.readAt (Elt F) (Rect.unit (s := S4096) (k0_off2 j) S16.size (k0_off2_inb j)).toLoadRect B : IVec S16 32) = lanes (F := F) B j.val := load_lanes j B
  rw [eA, eB]
  sl_for (inv2 d L slab (lanes (F := F) A j.val) (lanes (F := F) B j.val) s) $$ [Hx]
  case region =>
    intro k s'
    exact row_region d L slab _ _ (lanes_lt hA _) (lanes_lt hB _) s k s'
  · unfold inv2
    isplitr
    · ipureintro; rfl
    · iexact Hx
  iintro %s' HI
  unfold inv2
  icases HI with ⟨%hs', Hx⟩
  sl_step
  isplitr
  · ipureintro
    rw [hs', hs]
    rfl
  isplitl [Hx]; · iexact Hx
  isplitl [Ha]; · iexact Ha
  iexact Hb

/-! ## The tile's own semaphores and buffers -/

abbrev c0cell : GSem nD τ sig := (VT d L, .dma cc0_scoped0.sem)
abbrev c1cell : GSem nD τ sig := (VT d L, .dma cc0_scoped1.sem)
abbrev c2cell : GSem nD τ sig := (VT d L, .dma cc0_scoped2.sem)
abbrev c3cell : GSem nD τ sig := (VT d L, .dma cc0_scoped3.sem)
abbrev c4cell : GSem nD τ sig := (VT d L, .dma cc0_scoped4.sem)

theorem mem_own (x : DmaSem sig) (h : (SemLoc.dma x : SemLoc sig).isScoped .scVector = true) :
    ((VT d L, SemLoc.dma x) : GSem nD τ sig) ∈ ownCells (VT d L) := mem_ownCells.mpr ⟨rfl, h⟩
theorem cell_ne {x y : DmaSem sig} (h : x ≠ y) : ((VT d L, SemLoc.dma x) : GSem nD τ sig) ≠ (VT d L, SemLoc.dma y) :=
  fun e => h (SemLoc.dma.inj (Prod.mk.inj e).2)

/-- The five cells of the copies, and the rest. -/
theorem ownSems0_V :
    (ownSems0 (VT d L) : sProp 𝕄)
      = iprop(semVal (c0cell d L) 0 ∗ semVal (c1cell d L) 0 ∗ semVal (c2cell d L) 0 ∗ semVal (c3cell d L) 0 ∗ semVal (c4cell d L) 0
          ∗ bigSep ((((((ownCells (VT d L)).erase (c0cell d L)).erase (c1cell d L)).erase (c2cell d L)).erase (c3cell d L)).erase (c4cell d L)) fun g => semVal g 0) := by
  unfold SparseCore.Cfg.ownSems0
  rw [SparseCore.bigSep_erase' (mem_own d L cc0_scoped0.sem (by decide)),
    SparseCore.bigSep_erase' (Finset.mem_erase.mpr ⟨cell_ne d L (by decide), mem_own d L cc0_scoped1.sem (by decide)⟩),
    SparseCore.bigSep_erase' (Finset.mem_erase.mpr ⟨cell_ne d L (by decide), Finset.mem_erase.mpr ⟨cell_ne d L (by decide), mem_own d L cc0_scoped2.sem (by decide)⟩⟩),
    SparseCore.bigSep_erase' (Finset.mem_erase.mpr ⟨cell_ne d L (by decide), Finset.mem_erase.mpr ⟨cell_ne d L (by decide),
      Finset.mem_erase.mpr ⟨cell_ne d L (by decide), mem_own d L cc0_scoped3.sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), mem_own d L cc0_scoped4.sem (by decide)⟩⟩⟩⟩)]

abbrev vref (L : grid0.Coords) (b : Ref sig .scVector) : DevRef τ sig := (Proc.scVector (cV L) (jV L)).devRef b
theorem vref_ne {x y : Ref sig .scVector} (h : x ≠ y) : vref L x ≠ vref L y := fun e => h (Proc.devRef_injective _ e)

/-- The four scratch buffers, each at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (((((ownRefs (τ := τ) (.scVector (cV L) (jV L))).erase (vref L cc0_scratch0)).erase (vref L cc0_scratch1)).erase (vref L cc0_scratch2)).erase (vref L cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := vref L cc0_scratch0) rfl)).trans ?_
  rw [SparseCore.bigSep_erase' (Finset.mem_erase.mpr ⟨vref_ne L (by decide),
      SparseCore.Cfg.mem_ownRefs_of_owner (p := Proc.scVector (cV L) (jV L)) (b := vref L cc0_scratch1) rfl⟩),
    SparseCore.bigSep_erase' (Finset.mem_erase.mpr ⟨vref_ne L (by decide), Finset.mem_erase.mpr ⟨vref_ne L (by decide),
      SparseCore.Cfg.mem_ownRefs_of_owner (p := Proc.scVector (cV L) (jV L)) (b := vref L cc0_scratch2) rfl⟩⟩),
    SparseCore.bigSep_erase' (Finset.mem_erase.mpr ⟨vref_ne L (by decide), Finset.mem_erase.mpr ⟨vref_ne L (by decide), Finset.mem_erase.mpr ⟨vref_ne L (by decide),
      SparseCore.Cfg.mem_ownRefs_of_owner (p := Proc.scVector (cV L) (jV L)) (b := vref L cc0_scratch3) rfl⟩⟩⟩)]

/-- A row that reads as what the task computes is the row of partial sums. -/
theorem row_written (X : Vec F S4096000 .f32) (A B : Vec F S4096 .i32) (g : Buf (Elt F) (oLoc d))
    (hg : (oRow L).view.read (Elt F) g = tileVal X A B (wV L)) :
    ∀ x ∈ (oRow L).view.set, g x = (partials X A B : Buf (Elt F) (oLoc d)) x := by
  intro x hx
  obtain ⟨y, -, rfl⟩ := Finset.mem_map.mp hx
  refine (congrFun hg y).trans ?_
  show tileVal X A B (wV L) y = tileVal X A B (((oRow L).view.emb y) 0).val (iLane (((oRow L).view.emb y) 1).val)
  rw [(oRow_emb L y).1, (oRow_emb L y).2]
  congr 1
  funext (a : Fin 1)
  apply Fin.ext
  obtain rfl : a = 0 := Subsingleton.elim _ _
  exact (Nat.mod_eq_of_lt (y 0).isLt).symm

/-- A store over the whole staged row reads back. -/
theorem read_sO (f : Buf (Elt F) (sO.view.loc (VT d L))) (v : FVec F S16 .f32) :
    sO.view.read (Elt F) (sO.view.writes (Elt F) f [⟨Rect.unit ![0] S16.size inb_S16_S16_0, v⟩]) = v := by
  funext y
  refine View.read_writes_cons_hit sO.view f (Rect.unit ![0] S16.size inb_S16_S16_0) v [] y y ?_
  funext (a : Fin 1)
  apply Fin.ext
  obtain rfl : a = 0 := Subsingleton.elim _ _
  simp [Rect.emb, Rect.unit]

theorem tile_body (hF : (K (F := F)).Facts) (X : Vec F S4096000 .f32) (A B : Vec F S4096 .i32) (hA : InRange A) (hB : InRange B)
    (q : PosShare TreeShare) (O : CellTallies nD τ sig (HIx 1)) (W : Waits sig (HIx 1)) (hO : ∀ g, O g none = 0) :
    iprop(levAts (K (F := F)).L (K (F := F)).lev ∗ emp
        ∗ (xPts d q X ∗ aPts d q A ∗ bPts d q B ∗ ∃ f, oPts d (rowSet (wV L)) f)
        ∗ scopedBufs (VT d L) ∗ scopedSems0 (VT d L) ∗ owes (VT d L) O W)
      ⊢ wp frame (wpE (defs₀ (F := F)) 𝒱₀ (VT d L) none) Set.univ
          (cc0__sc_implies L xV (Memref.isWhole_whole _) aV (Memref.isWhole_whole _) bV (Memref.isWhole_whole _) oV (Memref.isWhole_whole _)
            sX (Memref.isWhole_whole _) sA (Memref.isWhole_whole _) sB (Memref.isWhole_whole _) sO (Memref.isWhole_whole _)
            cc0_scoped0 cc0_scoped1 cc0_scoped2 cc0_scoped3 cc0_scoped4)
          fun _ => iprop((xPts d q X ∗ aPts d q A ∗ bPts d q B ∗ oPts d (rowSet (wV L)) (partials X A B))
            ∗ scopedBufs (VT d L) ∗ scopedSems0 (VT d L)
            ∗ ∃ W', ⌜∀ p ∈ W', p ∈ W ∨ p.2 = none⌝ ∗ owes (VT d L) O W') := by
  rw [(K (F := F)).scopedBufs_V hF d (cV L) (jV L), SparseCore.Cfg.scopedSems0_V (Val := Elt F) d (cV L) (jV L), ownSems0_V, ownBufs_V]
  simp only [cc0__sc_implies_eq_skeleton]; unfold cc0__sc_implies_skel
  rw [k0_part1_eq_skeleton]; unfold k0_part1_skel
  rw [← set_oRow]
  iintro ⟨#Hlv, -, ⟨Hx, Ha, Hb, %fo, Ho⟩, ⟨⟨%f0, H0⟩, ⟨%f1, H1⟩, ⟨%f2, H2⟩, ⟨%f3, H3⟩, Hbufs⟩, ⟨Hs0, Hs1, Hs2, Hs3, Hs4, Hsems⟩, HO⟩
  ihave Hmw := (show levAts (K (F := F)).L (K (F := F)).lev ⊢ Transfers.MayWaits (VT d L) (default : HIx 1) O from
    (K (F := F)).mayWaits_none (thr := VT d L) hO) $$ Hlv
  ihave Hx := (Entails.of_eq (show (xLoc d ↦{q} (X : Buf (Elt F) (xLoc d)) : sProp 𝕄) = (xV.view.loc (VT d L) ↦{q} (X : Buf (Elt F) (xV.view.loc (VT d L)))) from rfl)) $$ Hx
  ihave Ha := (Entails.of_eq (show (aLoc d ↦{q} (A : Buf (Elt F) (aLoc d)) : sProp 𝕄) = (aV.view.loc (VT d L) ↦{q} (A : Buf (Elt F) (aV.view.loc (VT d L)))) from rfl)) $$ Ha
  ihave Hb := (Entails.of_eq (show (bLoc d ↦{q} (B : Buf (Elt F) (bLoc d)) : sProp 𝕄) = (bV.view.loc (VT d L) ↦{q} (B : Buf (Elt F) (bV.view.loc (VT d L)))) from rfl)) $$ Hb
  ihave Ho := (Entails.of_eq (show (oLoc d ↦[(oRow L).view.set]{fullShare} fo : sProp 𝕄) = ((oRow L).view.loc (VT d L) ↦[(oRow L).view.set]{fullShare} fo) from rfl)) $$ Ho
  ihave H0 := (Entails.of_eq (show ((VT d L).loc cc0_scratch0 ↦{fullShare} f0 : sProp 𝕄) = (sX.view.loc (VT d L) ↦{fullShare} f0) from rfl)) $$ H0
  ihave H1 := (Entails.of_eq (show ((VT d L).loc cc0_scratch1 ↦{fullShare} f1 : sProp 𝕄) = (sA.view.loc (VT d L) ↦{fullShare} f1) from rfl)) $$ H1
  ihave H2 := (Entails.of_eq (show ((VT d L).loc cc0_scratch2 ↦{fullShare} f2 : sProp 𝕄) = (sB.view.loc (VT d L) ↦{fullShare} f2) from rfl)) $$ H2
  ihave H3 := (Entails.of_eq (show ((VT d L).loc cc0_scratch3 ↦{fullShare} f3 : sProp 𝕄) = (sO.view.loc (VT d L) ↦{fullShare} f3) from rfl)) $$ H3
  sl_exec (disch := exact View.amount_pos _ _ (show 0 < S64000.numel by decide))
  -- the fetched contents: the two lists, the first half of the worker's rows
  rw [show View.write (Elt F) sA.view f1 (tile_body.sl.dma0 A) Finset.univ = A from View.write_whole_univ _ _ _,
    show View.write (Elt F) sB.view f2 (tile_body.sl.dma0_1 B) Finset.univ = B from View.write_whole_univ _ _ _,
    show View.write (Elt F) sX.view f0 (tile_body.sl.dma0_2 L X) Finset.univ = slabOf X (wV L) 0 from
      (View.write_whole_univ _ _ _).trans (read_slab L 0 X)]
  rw [Prog.bind_assoc]
  sl_for (inv1 d L (slabOf X (wV L) 0) A B (k0_pay1 (F := F))) $$ [H0 H1 H2]
  case region =>
    intro k s
    exact chunk_region d L _ A B hA hB _ k s
  · unfold inv1
    isplitr
    · ipureintro; rfl
    isplitl [H0]; · iexact H0
    isplitl [H1]; · iexact H1
    iexact H2
  iintro %r0 HI
  unfold inv1
  icases HI with ⟨%hr0, H0, H1, H2⟩
  sl_exec (disch := exact View.amount_pos _ _ (show 0 < S64000.numel by decide))
  rw [show View.write (Elt F) sX.view (slabOf X (wV L) 0) (tile_body.sl.dma0_3 L X) Finset.univ = slabOf X (wV L) 1 from
      (View.write_whole_univ _ _ _).trans (read_slab L 1 X)]
  rw [Prog.bind_assoc]
  sl_for (inv1 d L (slabOf X (wV L) 1) A B r0) $$ [H0 H1 H2]
  case region =>
    intro k s
    exact chunk_region d L _ A B hA hB _ k s
  · unfold inv1
    isplitr
    · ipureintro; rfl
    isplitl [H0]; · iexact H0
    isplitl [H1]; · iexact H1
    iexact H2
  iintro %r1 HI
  unfold inv1
  icases HI with ⟨%hr1, H0, H1, H2⟩
  sl_exec
  rw [wp_ret]
  imodintro
  have hrow : ∀ x ∈ (oRow L).view.set, ((oRow L).view.writes (Elt F) fo [⟨Rect.whole S16, tile_body.sl.dma2 d L f3 r1⟩]) x
      = (partials X A B : Buf (Elt F) (oLoc d)) x := by
    refine row_written d L X A B _ ?_
    rw [View.read_writes_whole]
    refine (read_sO d L f3 r1).trans ?_
    rw [hr1, hr0]
    rfl
  ihave Ho := (Entails.of_eq (pointsTo_congr hrow)) $$ Ho
  isplitl [Hx Ha Hb Ho]
  · isplitl [Hx]; · iexact Hx
    isplitl [Ha]; · iexact Ha
    isplitl [Hb]; · iexact Hb
    iexact Ho
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists _
  isplitr [HO]
  rotate_left
  · iexact HO
  ipureintro
  intro p hp
  simp only [Finset.mem_insert] at hp
  rcases hp with rfl | rfl | rfl | rfl | rfl | hp
  all_goals first | exact Or.inl hp | exact Or.inr rfl

end Tile

end Cert.Proof.Loss
-- ==== Proof.Deal.lean ====
/-
  # What the SparseCore call hands over

  The call is given the predictions flattened and the two lists of indices at a share per SparseCore, and each SparseCore
  deals its share among its sixteen tiles; the result's rows go to the tiles that write them, tile `i` of SparseCore `c`
  row `2 * i + c`, and come back at the tiles' partial sums.
-/
module

public import proofs.«01_k».proof.Proof.Tile

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0)
open Idealize.ShloMosaic.Transfers (dealOf pointsTo_deal)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## Shares and rows -/

/-- SparseCore `c`'s share of an operand, and its tile `i`'s part of it. -/
def qc (c : Fin 2) : PosShare TreeShare := dealOf fullShare Finset.univ c
def qt (c : Fin 2) (i : Fin 16) : PosShare TreeShare := dealOf (qc c) Finset.univ i

/-- The rows SparseCore `c`'s tiles write. -/
def coreRows (c : ℕ) : Finset S32x16.Idx := Finset.univ.filter fun x => (x 0).val % 2 = c

theorem rows_disjoint (c : ℕ) : ∀ i ∈ (Finset.univ : Finset (Fin 16)), ∀ j ∈ (Finset.univ : Finset (Fin 16)), i ≠ j →
    Disjoint (rowSet (2 * i.val + c)) (rowSet (2 * j.val + c)) := fun i _ j _ h => by
  rw [Finset.disjoint_left]
  intro x hx hy
  have h1 := (Finset.mem_filter.1 hx).2
  have h2 := (Finset.mem_filter.1 hy).2
  exact h (Fin.ext (by omega))

theorem rows_cover (c : ℕ) (hc : c < 2) : (Finset.univ : Finset (Fin 16)).biUnion (fun i => rowSet (2 * i.val + c)) = coreRows c := by
  ext x
  have hx : (x 0).val < 32 := (x 0).isLt
  simp only [Finset.mem_biUnion, Finset.mem_univ, true_and, rowSet, coreRows, Finset.mem_filter]
  constructor
  · rintro ⟨i, hi⟩; omega
  · intro h; exact ⟨⟨(x 0).val / 2, by omega⟩, by show (x 0).val = 2 * ((x 0).val / 2) + c; omega⟩

theorem cores_disjoint : ∀ i ∈ (Finset.univ : Finset (Fin 2)), ∀ j ∈ (Finset.univ : Finset (Fin 2)), i ≠ j →
    Disjoint (coreRows i.val) (coreRows j.val) := fun i _ j _ h => by
  rw [Finset.disjoint_left]
  intro x hx hy
  have h1 := (Finset.mem_filter.1 hx).2
  have h2 := (Finset.mem_filter.1 hy).2
  exact h (Fin.ext (h1.symm.trans h2))

theorem cores_cover : (Finset.univ : Finset (Fin 2)).biUnion (fun c => coreRows c.val) = Finset.univ := by
  ext x
  simp only [Finset.mem_biUnion, Finset.mem_univ, true_and, coreRows, Finset.mem_filter, iff_true]
  exact ⟨⟨(x 0).val % 2, Nat.mod_lt _ (by decide)⟩, rfl⟩

theorem oPts_core (d : Dev nD) (c : Fin 2) (f : Vec F S32x16 .f32) :
    (oPts d (coreRows c.val) f : sProp 𝕄) = bigSep Finset.univ fun i : Fin 16 => oPts d (rowSet (2 * i.val + c.val)) f := by
  rw [← pointsTo_biUnion Finset.univ (ℓ := oLoc d) (fun i : Fin 16 => rowSet (2 * i.val + c.val)) (rows_disjoint c.val), rows_cover c.val c.isLt]
theorem oPts_all (d : Dev nD) (f : Vec F S32x16 .f32) :
    (oPts d Finset.univ f : sProp 𝕄) = bigSep Finset.univ fun c : Fin 2 => oPts d (coreRows c.val) f := by
  rw [← pointsTo_biUnion Finset.univ (ℓ := oLoc d) (fun c : Fin 2 => coreRows c.val) cores_disjoint, cores_cover]

/-! ## The call's payloads -/

variable (X : Dev nD → Vec F S4096000 .f32) (A B : Dev nD → Vec F S4096 .i32)

/-- The three operands at a share. -/
abbrev ops3 (d : Dev nD) (q : PosShare TreeShare) : sProp 𝕄 := iprop(xPts d q (X d) ∗ aPts d q (A d) ∗ bPts d q (B d))

theorem ops3_deal {n : ℕ} (hn : 0 < n) (d : Dev nD) (q : PosShare TreeShare) :
    (ops3 X A B d q : sProp 𝕄) = bigSep Finset.univ fun i : Fin n => ops3 X A B d (dealOf q Finset.univ i) := by
  have hne : (Finset.univ : Finset (Fin n)).Nonempty := ⟨⟨0, hn⟩, Finset.mem_univ _⟩
  unfold ops3
  rw [bigSep_sep', bigSep_sep']
  unfold xPts aPts bPts
  rw [← pointsTo_deal Finset.univ hne q, ← pointsTo_deal Finset.univ hne q, ← pointsTo_deal Finset.univ hne q]

theorem ops3_sep {n : ℕ} (hn : 0 < n) (d : Dev nD) (q : PosShare TreeShare) (Φ : Fin n → sProp 𝕄) :
    (bigSep Finset.univ fun i : Fin n => iprop(ops3 X A B d (dealOf q Finset.univ i) ∗ Φ i)) = iprop(ops3 X A B d q ∗ bigSep Finset.univ Φ) := by
  rw [ops3_deal X A B hn d q]
  exact bigSep_sep' Finset.univ (fun i : Fin n => ops3 X A B d (dealOf q Finset.univ i)) Φ

abbrev rowsIn (d : Dev nD) (s : Finset S32x16.Idx) : sProp 𝕄 := iprop(∃ f, oPts d s f)
abbrev rowsOut (d : Dev nD) (s : Finset S32x16.Idx) : sProp 𝕄 := oPts d s (partials (X d) (A d) (B d))

def P : (K (F := F)).Pay (nD := nD) (Val := Elt F) (Name := ℕ) (U := UU) where
  st := fun q d c => match q with
    | 0 => iprop(ops3 X A B d (qc (Fin.cast nCore_zero c)) ∗ rowsIn d (coreRows c.val))
  dn := fun q d c => match q with
    | 0 => iprop(ops3 X A B d (qc (Fin.cast nCore_zero c)) ∗ rowsOut X A B d (coreRows c.val))
  go := fun q d c i => match q with
    | 0 => iprop(ops3 X A B d (qt (Fin.cast nCore_zero c) (Fin.cast nSub_zero i)) ∗ rowsIn d (rowSet (2 * i.val + c.val)))
  td := fun q d c i => match q with
    | 0 => iprop(ops3 X A B d (qt (Fin.cast nCore_zero c) (Fin.cast nSub_zero i)) ∗ rowsOut X A B d (rowSet (2 * i.val + c.val)))
  x := fun _ _ => iprop(emp)

instance P_storable : (P (F := F) X A B).IsStorable where
  st q d c := match q with
    | 0 => (inferInstance : BI.Storable (upEmb : UEmb _ 𝕄) iprop(ops3 X A B d (qc (Fin.cast nCore_zero c)) ∗ rowsIn d (coreRows c.val)))
  dn q d c := match q with
    | 0 => (inferInstance : BI.Storable (upEmb : UEmb _ 𝕄) iprop(ops3 X A B d (qc (Fin.cast nCore_zero c)) ∗ rowsOut X A B d (coreRows c.val)))
  go q d c i := match q with
    | 0 => (inferInstance : BI.Storable (upEmb : UEmb _ 𝕄) iprop(ops3 X A B d (qt (Fin.cast nCore_zero c) (Fin.cast nSub_zero i)) ∗ rowsIn d (rowSet (2 * i.val + c.val))))
  td q d c i := match q with
    | 0 => (inferInstance : BI.Storable (upEmb : UEmb _ 𝕄) iprop(ops3 X A B d (qt (Fin.cast nCore_zero c) (Fin.cast nSub_zero i)) ∗ rowsOut X A B d (rowSet (2 * i.val + c.val))))

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_implies (coordsV c s)
          xV (Memref.isWhole_whole _) aV (Memref.isWhole_whole _) bV (Memref.isWhole_whole _) oV (Memref.isWhole_whole _)
          sX (Memref.isWhole_whole _) sA (Memref.isWhole_whole _) sB (Memref.isWhole_whole _) sO (Memref.isWhole_whole _)
          cc0_scoped0 cc0_scoped1 cc0_scoped2 cc0_scoped3 cc0_scoped4) ⟨⟩ c s := rfl

theorem pre_assoc {a b c d : sProp 𝕄} : iprop((a ∗ b ∗ c) ∗ d) ⊢ iprop(a ∗ b ∗ c ∗ d) := by
  iintro ⟨⟨Ha, Hb, Hc⟩, Hd⟩
  isplitl [Ha]; · iexact Ha
  isplitl [Hb]; · iexact Hb
  isplitl [Hc] <;> iassumption

theorem obl_post {thr : Thread nD τ} {a b c d e f : sProp 𝕄} {O : CellTallies nD τ sig (HIx 1)} {W : Waits sig (HIx 1)} {q : Fin 1} :
    iprop((a ∗ b ∗ c ∗ d) ∗ e ∗ f ∗ ∃ W', ⌜∀ p ∈ W', p ∈ W ∨ p.2 = none⌝ ∗ owes thr O W')
      ⊢ iprop(((a ∗ b ∗ c) ∗ d) ∗ e ∗ f ∗ ∃ W', ⌜∀ p ∈ W', p ∈ W ∨ p.2 = none ∨ p.2 = some q⌝ ∗ owes thr O W') := by
  iintro ⟨⟨Ha, Hb, Hc, Hd⟩, He, Hf, %W', %hW', HO⟩
  isplitr [He Hf HO]
  · isplitr [Hd]
    · isplitl [Ha]; · iexact Ha
      isplitl [Hb] <;> iassumption
    iexact Hd
  isplitl [He]; · iexact He
  isplitl [Hf]; · iexact Hf
  iexists W'
  isplitr
  · ipureintro
    exact fun p hp => (hW' p hp).imp_right Or.inl
  iexact HO

theorem tileObl (hA : ∀ d, InRange (A d)) (hB : ∀ d, InRange (B d)) (hF : (K (F := F)).Facts) :
    (K (F := F)).TileObl (D (F := F)) 𝒱 (P X A B) v₀ 0 := by
  intro d c i O W hO _ _
  simp only [show (P X A B).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hb := tile_body d (coordsV ⟨_, hci.1⟩ ⟨_, hci.2⟩) hF (X d) (A d) (B d) (hA d) (hB d)
    (qt (Fin.cast nCore_zero c) (Fin.cast nSub_zero i)) O W hO
  refine BI.Entails.trans (Q := iprop(levAts (K (F := F)).L (K (F := F)).lev ∗ emp
        ∗ (xPts d (qt (Fin.cast nCore_zero c) (Fin.cast nSub_zero i)) (X d) ∗ aPts d (qt (Fin.cast nCore_zero c) (Fin.cast nSub_zero i)) (A d)
          ∗ bPts d (qt (Fin.cast nCore_zero c) (Fin.cast nSub_zero i)) (B d) ∗ ∃ f, oPts d (rowSet (2 * i.val + c.val)) f)
        ∗ scopedBufs (VT d (coordsV ⟨_, hci.1⟩ ⟨_, hci.2⟩)) ∗ scopedSems0 (VT d (coordsV ⟨_, hci.1⟩ ⟨_, hci.2⟩)) ∗ owes (VT d (coordsV ⟨_, hci.1⟩ ⟨_, hci.2⟩)) O W)) ?_
    (hb.trans (wp_mono frame _ _ fun _ => ?_))
  · exact sep_mono_right (sep_mono_right (sep_mono_left pre_assoc))
  · exact obl_post

/-! ## The split among the tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem rowsIn_tiles' (d : Dev nD) (c : Fin 2) (f : Vec F S32x16 .f32) :
    (oPts d (coreRows c.val) f : sProp 𝕄) ⊢ bigSep Finset.univ fun i : Fin 16 => rowsIn (F := F) d (rowSet (2 * i.val + c.val)) := by
  rw [oPts_core]
  exact BI.bigSep_mono fun i _ => (show oPts d (rowSet (2 * i.val + c.val)) f ⊢ (rowsIn d (rowSet (2 * i.val + c.val)) : sProp 𝕄) from by
    iintro H; iexists f; iexact H)
theorem rowsIn_tiles (d : Dev nD) (c : Fin 2) :
    (rowsIn d (coreRows c.val) : sProp 𝕄) ⊢ bigSep Finset.univ fun i : Fin 16 => rowsIn (F := F) d (rowSet (2 * i.val + c.val)) := by
  iintro ⟨%f, H⟩
  iapply (rowsIn_tiles' d c f); iexact H
theorem rowsIn_cores (d : Dev nD) (f : Vec F S32x16 .f32) :
    (oPts d Finset.univ f : sProp 𝕄) ⊢ bigSep Finset.univ fun c : Fin 2 => rowsIn (F := F) d (coreRows c.val) := by
  rw [oPts_all]
  exact BI.bigSep_mono fun c _ => (show oPts d (coreRows c.val) f ⊢ (rowsIn d (coreRows c.val) : sProp 𝕄) from by iintro H; iexists f; iexact H)

theorem vecSplit : (K (F := F)).VecSplit' (P X A B) 0 := by
  intro d c
  show iprop(ops3 X A B d (qc (Fin.cast nCore_zero c)) ∗ rowsIn d (coreRows c.val)) ⊢ |={Set.univ}=> iprop(
      (bigSep Finset.univ fun i : Fin ((K (F := F)).nSub 0) => (fun i : Fin 16 => iprop(ops3 X A B d (qt (Fin.cast nCore_zero c) i)
          ∗ rowsIn d (rowSet (2 * i.val + c.val)))) (Fin.cast nSub_zero i))
      ∗ ((bigSep Finset.univ fun i : Fin ((K (F := F)).nSub 0) => (fun i : Fin 16 => iprop(ops3 X A B d (qt (Fin.cast nCore_zero c) i)
          ∗ rowsOut X A B d (rowSet (2 * i.val + c.val)))) (Fin.cast nSub_zero i))
          -∗ iprop(ops3 X A B d (qc (Fin.cast nCore_zero c)) ∗ rowsOut X A B d (coreRows c.val))))
  rw [bigSep_tasks (F := F) (fun i : Fin 16 => iprop(ops3 X A B d (qt (Fin.cast nCore_zero c) i) ∗ rowsIn d (rowSet (2 * i.val + c.val)))),
    bigSep_tasks (F := F) (fun i : Fin 16 => iprop(ops3 X A B d (qt (Fin.cast nCore_zero c) i) ∗ rowsOut X A B d (rowSet (2 * i.val + c.val))))]
  unfold qt
  rw [ops3_sep X A B (by decide) d (qc (Fin.cast nCore_zero c)) (fun i : Fin 16 => rowsIn d (rowSet (2 * i.val + c.val))),
    ops3_sep X A B (by decide) d (qc (Fin.cast nCore_zero c)) (fun i : Fin 16 => rowsOut X A B d (rowSet (2 * i.val + c.val)))]
  iintro ⟨Hops, Ho⟩
  imodintro
  isplitl [Hops Ho]
  · isplitl [Hops]; · iexact Hops
    iapply (rowsIn_tiles d (Fin.cast nCore_zero c)); iexact Ho
  iintro ⟨Hops, Ho⟩
  isplitl [Hops]; · iexact Hops
  iapply (Entails.of_eq (oPts_core d (Fin.cast nCore_zero c) (partials (X d) (A d) (B d))).symm); iexact Ho

/-- What the call takes, from the operands and the result whole; and what it gives back. -/
theorem st_intro (d : Dev nD) (f : Vec F S32x16 .f32) :
    iprop(ops3 X A B d fullShare ∗ oPts d Finset.univ f)
      ⊢ (bigSep Finset.univ fun c : Fin ((K (F := F)).nCore 0) => (P X A B).st 0 d c : sProp 𝕄) := by
  show _ ⊢ bigSep Finset.univ fun c : Fin ((K (F := F)).nCore 0) => (fun c : Fin 2 => iprop(ops3 X A B d (qc c) ∗ rowsIn d (coreRows c.val))) (Fin.cast nCore_zero c)
  rw [bigSep_cores (F := F) (fun c : Fin 2 => iprop(ops3 X A B d (qc c) ∗ rowsIn d (coreRows c.val)))]
  unfold qc
  rw [ops3_sep X A B (by decide) d fullShare (fun c : Fin 2 => rowsIn d (coreRows c.val))]
  iintro ⟨Hops, Ho⟩
  isplitl [Hops]; · iexact Hops
  iapply (rowsIn_cores d f); iexact Ho
theorem dn_elim (d : Dev nD) :
    (bigSep Finset.univ fun c : Fin ((K (F := F)).nCore 0) => (P X A B).dn 0 d c : sProp 𝕄)
      ⊢ iprop(ops3 X A B d fullShare ∗ oPts d Finset.univ (partials (X d) (A d) (B d))) := by
  show (bigSep Finset.univ fun c : Fin ((K (F := F)).nCore 0) => (fun c : Fin 2 => iprop(ops3 X A B d (qc c) ∗ rowsOut X A B d (coreRows c.val))) (Fin.cast nCore_zero c)) ⊢ _
  rw [bigSep_cores (F := F) (fun c : Fin 2 => iprop(ops3 X A B d (qc c) ∗ rowsOut X A B d (coreRows c.val)))]
  unfold qc
  rw [ops3_sep X A B (by decide) d fullShare (fun c : Fin 2 => rowsOut X A B d (coreRows c.val)), oPts_all]

end Cert.Proof.Loss
-- ==== Proof.TcValue.lean ====
/-
  # What the TensorCore kernel computes

  Over any float values: the sum, block by block of 512 rows, of the products of the predictions with themselves; the
  same of the one-hot rows of the two lists of indices; and the sum of the two arrays' products, the scalar it writes.
-/
module

public import proofs.«01_k».proof.Proof.Common

@[expose] public section

noncomputable section

namespace Cert.Proof.Loss

open Cert.KernelIdeal Cert.KernelIdeal.Gen
open Idealize.ShloMosaic

variable {F : FTy → Type} [FloatOps F]

/-- Row `r`, column `c` of the predictions; entry `k` of block `t` of a list of indices; both reduced into range. -/
def iMat (r c : ℕ) : S4096x1000.Idx := fun a =>
  ⟨(match a with | 0 => r | 1 => c) % S4096x1000.size a, Nat.mod_lt _ (by revert a; decide)⟩
def iBlk (t k : ℕ) : S8x1x512.Idx := fun a =>
  ⟨(match a with | 0 => t | 1 => 0 | 2 => k) % S8x1x512.size a, Nat.mod_lt _ (by revert a; decide)⟩

/-- Block `t`: 512 rows of the predictions, 512 entries of a list. -/
def matBlk (P : Vec F S4096x1000 .f32) (t : ℕ) : Vec F S512x1000 .f32 := fun x => P (iMat (512 * t + (x 0).val) (x 1).val)
def idxBlk (I : Vec F S8x1x512 .i32) (t : ℕ) : Vec F S1x1x512 .i32 := fun x => I (iBlk t (x 2).val)

/-- The sum of the first `n + 1` blocks' products, of the predictions and of the one-hot rows. -/
def gramAcc (P : Vec F S4096x1000 .f32) : ℕ → Vec F S1000x1000 .f32
  | 0 => k1_pay3 (matBlk P 0)
  | n + 1 => k1_pay5 (matBlk P (n + 1)) (gramAcc P n)
def maskAcc (A B : Vec F S8x1x512 .i32) : ℕ → Vec F S1000x1000 .f32
  | 0 => k1_pay4 (idxBlk A 0) (idxBlk B 0)
  | n + 1 => k1_pay6 (idxBlk A (n + 1)) (idxBlk B (n + 1)) (maskAcc A B n)

/-- The scalar written at the last point. -/
def mutexVal (P : Vec F S4096x1000 .f32) (A B : Vec F S8x1x512 .i32) : Vec F S1x1 .f32 :=
  k1_pay7 (gramAcc P 7) (maskAcc A B 7)

end Cert.Proof.Loss
-- ==== Proof.TcBody.lean ====
/-
  # The TensorCore kernel's body at one point

  Three cases: the first point stores the two products, a later one adds them, and the last also forms the scalar.
-/
module

public import proofs.«01_k».proof.Proof.TcValue

@[expose] public section

noncomputable section

namespace Cert.Proof.Loss

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-- A buffer's contents through a memref, and the memref's elements held at them. -/
abbrev Bf (c : Dev nD) {sp : Space} {s : Shape} {e : EltTy} (M : Memref sig .tc sp s e) : Type := Buf (Elt F) (M.view.loc (c : Thread nD τ))
abbrev pt (c : Dev nD) {sp : Space} {s : Shape} {e : EltTy} (M : Memref sig .tc sp s e) (f : Bf (F := F) c M) : sProp 𝕄 :=
  M.view.loc (c : Thread nD τ) ↦[M.view.set]{fullShare} f

/-- The two scratch arrays. -/
abbrev gM : Memref sig .tc .vmem S1000x1000 .f32 := Memref.whole cc1_scratch0
abbrev mM : Memref sig .tc .vmem S1000x1000 .f32 := Memref.whole cc1_scratch1

/-! ## Whole loads and whole stores -/

/-- A load of all of a memref reads its contents. -/
theorem readAt_all {sp : Space} {s : Shape} {e : EltTy} (v : View sig .tc sp s e) (off : Fin s.rank → Nat)
    (h : ∀ a, off a + s.size a ≤ s.size a) (h0 : ∀ a, off a = 0) (f : v.ty.Contents (Elt F)) :
    v.readAt (Elt F) (Rect.unit off s.size h).toLoadRect f = v.read (Elt F) f := by
  funext x
  rw [View.readAt_apply]
  congr 1
  funext a
  apply Fin.ext
  simp [Rect.toLoadRect, LoadRect.idx, Rect.unit, h0 a]

/-- What a store over all of a memref leaves reads as what was stored; -/
theorem read_store_all {sp : Space} {s : Shape} {e : EltTy} (v : View sig .tc sp s e) (off : Fin s.rank → Nat)
    (h : ∀ a, off a + s.size a ≤ s.size a) (h0 : ∀ a, off a = 0) (f : v.ty.Contents (Elt F)) (w : s.Idx → Elt F e)
    (L : List (View.Piece (Elt F) s e)) :
    v.read (Elt F) (v.writes (Elt F) f (⟨Rect.unit off s.size h, w⟩ :: L)) = w := by
  funext y
  refine View.read_writes_cons_hit v f (Rect.unit off s.size h) w L y y ?_
  funext a
  apply Fin.ext
  simp [Rect.emb, Rect.unit, h0 a]

/-- over a whole buffer, is what was stored. -/
theorem store_gM (c : Dev nD) (f : Bf (F := F) c gM) (w : Vec F S1000x1000 .f32) :
    gM.view.writes (Elt F) f [⟨Rect.unit ![0, 0] S1000x1000.size inb_S1000x1000_S1000x1000_0_0, w⟩] = w := by
  have h := read_store_all gM.view ![0, 0] inb_S1000x1000_S1000x1000_0_0 (by decide) f w []
  simp only [Memref.view_whole, View.read_whole] at h
  exact h
theorem store_mM (c : Dev nD) (f : Bf (F := F) c mM) (w : Vec F S1000x1000 .f32) :
    mM.view.writes (Elt F) f [⟨Rect.unit ![0, 0] S1000x1000.size inb_S1000x1000_S1000x1000_0_0, w⟩] = w := by
  have h := read_store_all mM.view ![0, 0] inb_S1000x1000_S1000x1000_0_0 (by decide) f w []
  simp only [Memref.view_whole, View.read_whole] at h
  exact h

variable (c : Dev nD) (i : grid1.Coords)
  (M1 : Memref sig .tc .vmem S512x1000 .f32) (h1 : M1.IsWhole) (M2 : Memref sig .tc .vmem S1x1x512 .i32) (h2 : M2.IsWhole)
  (M3 : Memref sig .tc .vmem S1x1x512 .i32) (h3 : M3.IsWhole) (M4 : Memref sig .tc .vmem S1x1 .f32) (h4 : M4.IsWhole)

/-- A load of all of a scratch array after a store over all of it. -/
theorem reload_all (b : Ref sig .tc) (off : Fin b.ty.shape.rank → Nat)
    (h h' : ∀ a, off a + b.ty.shape.size a ≤ b.ty.shape.size a) (h0 : ∀ a, off a = 0) (w : b.ty.shape.Idx → Elt F b.ty.elt) :
    (View.whole b).readCov [⟨Rect.unit off b.ty.shape.size h, w⟩] (Rect.unit off b.ty.shape.size h').toLoadRect = w := by
  unfold View.readCov
  exact (readAt_all _ off h' h0 _).trans (read_store_all _ off h h0 _ w [])

/-- The three conditions at a point. -/
theorem cond_first (n : ℕ) (hn : n < 8) :
    (Scalar.cmpi .ne (Scalar.extui (Scalar.cmpi .eq (BitVec.ofNat 32 n) 0#32) : BitVec 32) 0#32 = 1#1 ↔ n = 0) := by
  interval_cases n <;> decide
theorem cond_later (n : ℕ) (hn : n < 8) :
    (Scalar.cmpi .ne (Scalar.extui (Scalar.cmpi .sgt (BitVec.ofNat 32 n) 0#32) : BitVec 32) 0#32 = 1#1 ↔ 0 < n) := by
  interval_cases n <;> decide
theorem cond_last (n : ℕ) (hn : n < 8) :
    (Scalar.cmpi .ne (Scalar.extui (Scalar.cmpi .eq (BitVec.ofNat 32 n) 7#32) : BitVec 32) 0#32 = 1#1 ↔ n = 7) := by
  interval_cases n <;> decide

theorem body_first (hi : (i 0).val = 0) (f1 : Bf (F := F) c M1) (f2 : Bf (F := F) c M2) (f3 : Bf (F := F) c M3)
    (g : Bf (F := F) c gM) (k : Bf (F := F) c mM) :
    iprop(pt c M1 f1 ∗ pt c M2 f2 ∗ pt c M3 f3 ∗ pt c gM g ∗ pt c mM k)
      ⊢ wp frame (wpE (defs₀ (F := F)) 𝒱₀ (c : Thread nD τ) none) Set.univ
          (cc1__tc_mutex_body i M1 h1 M2 h2 M3 h3 M4 h4 gM (Memref.isWhole_whole _) mM (Memref.isWhole_whole _))
          fun _ => iprop(pt c M1 f1 ∗ pt c M2 f2 ∗ pt c M3 f3 ∗ pt c gM (k1_pay3 (M1.view.read (Elt F) f1))
            ∗ pt c mM (k1_pay4 (M2.view.read (Elt F) f2) (M3.view.read (Elt F) f3))) := by
  have e1 : Scalar.cmpi .ne (Scalar.extui (Scalar.cmpi .eq (BitVec.ofNat 32 (i 0).val) 0#32) : BitVec 32) 0#32 = 1#1 := by exact (cond_first _ (i 0).isLt).2 (by omega)
  have e2 : ¬ Scalar.cmpi .ne (Scalar.extui (Scalar.cmpi .sgt (BitVec.ofNat 32 (i 0).val) 0#32) : BitVec 32) 0#32 = 1#1 := by exact fun h => absurd ((cond_later _ (i 0).isLt).1 h) (by omega)
  have e3 : ¬ k1_cond3 i = 1#1 := by exact fun h => absurd ((cond_last _ (i 0).isLt).1 h) (by omega)
  rw [cc1__tc_mutex_body_eq_skeleton]; unfold cc1__tc_mutex_body_skel
  iintro ⟨H1, H2, H3, Hg, Hm⟩
  sl_exec
  rw [store_gM, store_mM]
  simp only [readAt_all M1.view ![0, 0] _ (by decide), readAt_all M2.view ![0, 0, 0] _ (by decide),
    readAt_all M3.view ![0, 0, 0] _ (by decide), readAt_all gM.view ![0, 0] _ (by decide), readAt_all mM.view ![0, 0] _ (by decide)]
  rw [wp_ret]
  imodintro
  isplitl [H1]; · iexact H1
  isplitl [H2]; · iexact H2
  isplitl [H3]; · iexact H3
  isplitl [Hg]; · iexact Hg
  iexact Hm

theorem body_later (hi : 0 < (i 0).val) (hi7 : (i 0).val < 7) (f1 : Bf (F := F) c M1) (f2 : Bf (F := F) c M2) (f3 : Bf (F := F) c M3)
    (g : Bf (F := F) c gM) (k : Bf (F := F) c mM) :
    iprop(pt c M1 f1 ∗ pt c M2 f2 ∗ pt c M3 f3 ∗ pt c gM g ∗ pt c mM k)
      ⊢ wp frame (wpE (defs₀ (F := F)) 𝒱₀ (c : Thread nD τ) none) Set.univ
          (cc1__tc_mutex_body i M1 h1 M2 h2 M3 h3 M4 h4 gM (Memref.isWhole_whole _) mM (Memref.isWhole_whole _))
          fun _ => iprop(pt c M1 f1 ∗ pt c M2 f2 ∗ pt c M3 f3 ∗ pt c gM (k1_pay5 (M1.view.read (Elt F) f1) g)
            ∗ pt c mM (k1_pay6 (M2.view.read (Elt F) f2) (M3.view.read (Elt F) f3) k)) := by
  have e1 : ¬ Scalar.cmpi .ne (Scalar.extui (Scalar.cmpi .eq (BitVec.ofNat 32 (i 0).val) 0#32) : BitVec 32) 0#32 = 1#1 := by exact fun h => absurd ((cond_first _ (i 0).isLt).1 h) (by omega)
  have e2 : Scalar.cmpi .ne (Scalar.extui (Scalar.cmpi .sgt (BitVec.ofNat 32 (i 0).val) 0#32) : BitVec 32) 0#32 = 1#1 := by exact (cond_later _ (i 0).isLt).2 (by omega)
  have e3 : ¬ k1_cond3 i = 1#1 := by exact fun h => absurd ((cond_last _ (i 0).isLt).1 h) (by omega)
  rw [cc1__tc_mutex_body_eq_skeleton]; unfold cc1__tc_mutex_body_skel
  iintro ⟨H1, H2, H3, Hg, Hm⟩
  sl_exec
  rw [store_gM, store_mM]
  simp only [readAt_all M1.view ![0, 0] _ (by decide), readAt_all M2.view ![0, 0, 0] _ (by decide),
    readAt_all M3.view ![0, 0, 0] _ (by decide), readAt_all gM.view ![0, 0] _ (by decide), readAt_all mM.view ![0, 0] _ (by decide)]
  rw [wp_ret]
  imodintro
  isplitl [H1]; · iexact H1
  isplitl [H2]; · iexact H2
  isplitl [H3]; · iexact H3
  isplitl [Hg]; · iexact Hg
  iexact Hm

theorem body_last (hi : (i 0).val = 7) (f1 : Bf (F := F) c M1) (f2 : Bf (F := F) c M2) (f3 : Bf (F := F) c M3)
    (g : Bf (F := F) c gM) (k : Bf (F := F) c mM) (f4 : Bf (F := F) c M4) :
    iprop(pt c M1 f1 ∗ pt c M2 f2 ∗ pt c M3 f3 ∗ pt c gM g ∗ pt c mM k ∗ pt c M4 f4)
      ⊢ wp frame (wpE (defs₀ (F := F)) 𝒱₀ (c : Thread nD τ) none) Set.univ
          (cc1__tc_mutex_body i M1 h1 M2 h2 M3 h3 M4 h4 gM (Memref.isWhole_whole _) mM (Memref.isWhole_whole _))
          fun _ => iprop(pt c M1 f1 ∗ pt c M2 f2 ∗ pt c M3 f3 ∗ pt c gM (k1_pay5 (M1.view.read (Elt F) f1) g)
            ∗ pt c mM (k1_pay6 (M2.view.read (Elt F) f2) (M3.view.read (Elt F) f3) k)
            ∗ ∃ f4 : Bf (F := F) c M4, ⌜M4.view.read (Elt F) f4 = k1_pay7 (k1_pay5 (M1.view.read (Elt F) f1) g) (k1_pay6 (M2.view.read (Elt F) f2) (M3.view.read (Elt F) f3) k)⌝ ∗ pt c M4 f4) := by
  have e1 : ¬ Scalar.cmpi .ne (Scalar.extui (Scalar.cmpi .eq (BitVec.ofNat 32 (i 0).val) 0#32) : BitVec 32) 0#32 = 1#1 := by exact fun h => absurd ((cond_first _ (i 0).isLt).1 h) (by omega)
  have e2 : Scalar.cmpi .ne (Scalar.extui (Scalar.cmpi .sgt (BitVec.ofNat 32 (i 0).val) 0#32) : BitVec 32) 0#32 = 1#1 := by exact (cond_later _ (i 0).isLt).2 (by omega)
  have e3 : k1_cond3 i = 1#1 := by exact (cond_last _ (i 0).isLt).2 (by omega)
  rw [cc1__tc_mutex_body_eq_skeleton]; unfold cc1__tc_mutex_body_skel
  iintro ⟨H1, H2, H3, Hg, Hm, H4⟩
  sl_exec
  unfold body_last.sl.Hg_1 body_last.sl.Hm_1 body_last.sl.v30 body_last.sl.v31
  rw [store_gM, store_mM]
  simp only [readAt_all M1.view ![0, 0] _ (by decide), readAt_all M2.view ![0, 0, 0] _ (by decide),
    readAt_all M3.view ![0, 0, 0] _ (by decide), readAt_all gM.view ![0, 0] _ (by decide), readAt_all mM.view ![0, 0] _ (by decide)]
  rw [wp_ret]
  imodintro
  isplitl [H1]; · iexact H1
  isplitl [H2]; · iexact H2
  isplitl [H3]; · iexact H3
  isplitl [Hg]; · iexact Hg
  isplitl [Hm]; · iexact Hm
  iexists _
  isplitr [H4]
  rotate_left
  · iexact H4
  ipureintro
  rw [read_store_all M4.view ![0, 0] _ (by decide)]
  exact congrArg₂ k1_pay7
    ((congrArg (fun L => (View.whole cc1_scratch0).readCov L _)
      (show body_last.sl.Hg_1 c M1 f1 g = [⟨Rect.unit ![0, 0] S1000x1000.size inb_S1000x1000_S1000x1000_0_0, _⟩] by
        unfold body_last.sl.Hg_1
        simp only [readAt_all M1.view ![0, 0] _ (by decide), readAt_all gM.view ![0, 0] _ (by decide)]
        rfl)).trans (reload_all cc1_scratch0 ![0, 0] _ _ (by decide) _))
    ((congrArg (fun L => (View.whole cc1_scratch1).readCov L _)
      (show body_last.sl.Hm_1 c M2 M3 f2 f3 k = [⟨Rect.unit ![0, 0] S1000x1000.size inb_S1000x1000_S1000x1000_0_0, _⟩] by
        unfold body_last.sl.Hm_1
        simp only [readAt_all M2.view ![0, 0, 0] _ (by decide), readAt_all M3.view ![0, 0, 0] _ (by decide), readAt_all mM.view ![0, 0] _ (by decide)]
        rfl)).trans (reload_all cc1_scratch1 ![0, 0] _ _ (by decide) _))

end Cert.Proof.Loss
-- ==== Proof.TcRegion.lean ====
/-
  # The TensorCore call

  The kernel's eight points as the pipeline runs them: the proof data (what the windows hold, the two scratch arrays
  between the points), the body obligation at a point, and the call as a segment of @main.
-/
module

public import proofs.«01_k».proof.Proof.TcBody
public import proofs.«01_k».proof.Proof.Gen.KernelIdeal.Points
public import Idealize.ShloMosaic.Lib.Pipeline.Regions
public import Idealize.ShloMosaic.Lib.Pipeline.RegionsLoop
public import Idealize.ShloMosaic.Lib.Pipeline.ValueKit.Geometry

@[expose] public section

noncomputable section

namespace Cert.Proof.Loss

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MM F

/-- A core's buffers: contents of every reference of the TensorCore. -/
abbrev Bufs (F : FTy → Type) : Type := (c : Dev nD) → (b : Ref sig .tc) → Buf (Elt F) ((c : Thread nD τ).loc b)

variable (V : Bufs F)

/-- The call's three operands at the buffers it is entered from. -/
abbrev opP (c : Dev nD) : Vec F S4096x1000 .f32 := V c main_arg0
abbrev opA (c : Dev nD) : Vec F S8x1x512 .i32 := V c main_v2
abbrev opB (c : Dev nD) : Vec F S8x1x512 .i32 := V c main_v5

/-- The invariant before point `n`: the scratch arrays, at the sums so far once a point has run. -/
def PhiAt (c : Dev nD) : ℕ → sProp 𝕄
  | 0 => Pipeline.scopedRest (Ix := HIx 1) (Name := ℕ) (U := UU) (Lvl := ℕ) (Val := Elt F) spec1 c
  | n + 1 => iprop(pt c gM (gramAcc (opP V c) n) ∗ pt c mM (maskAcc (opA V c) (opB V c) n))

variable (b : ℕ)

/-- The proof data. -/
def dat (c : Dev nD) : Dat τ (Elt F) (HIx 1) ℕ UU ℕ cfg1 c where
  A w := V c (Pipeline.arrRef spec1 w)
  after w t := match w with
    | ⟨0, _⟩ => matBlk (opP V c) t.val
    | ⟨1, _⟩ => idxBlk (opA V c) t.val
    | ⟨2, _⟩ => idxBlk (opB V c) t.val
    | ⟨3, _⟩ => mutexVal (opP V c) (opA V c) (opB V c)
  Φ t := PhiAt V c t.val
  q _ := fullShare
  owed _ := 0
  recorded _ := {p | (K (F := F)).lev ((c : Thread nD τ), p.1) p.2 ≤ b}

theorem coords_val (t : Fin cfg1.N) : ((grid1.coords t) 0).val = t.val := by
  have h : ∀ t : Fin grid1.N, ((grid1.coords t) 0).val = t.val := by decide +kernel
  exact h t

theorem index0 (t : Fin grid1.N) : win1_0.index t = ![t.val, 0] := by revert t; decide +kernel
theorem index1 (t : Fin grid1.N) : win1_1.index t = ![t.val, 0, 0] := by revert t; decide +kernel
theorem index2 (t : Fin grid1.N) : win1_2.index t = ![t.val, 0, 0] := by revert t; decide +kernel

theorem before_mat (c : Dev nD) (t : Fin cfg1.N) (d) : (dat V b c).before 0 t d = matBlk (opP V c) t.val := by
  rw [(dat V b c).before_fetched 0 t (fetch1_0 t) d]
  funext x
  show V c main_arg0 ((win1_0.blk t).view.emb x) = V c main_arg0 (iMat (512 * t.val + (x 0).val) (x 1).val)
  congr 1
  funext (a : Fin 2)
  apply Fin.ext
  have ht : t.val < 8 := t.isLt
  have hx0 : (x 0).val < 512 := (x 0).isLt
  have hx1 : (x 1).val < 1000 := (x 1).isLt
  have e0 : win1_0.index t 0 = t.val := congrFun (index0 t) 0
  have e1 : win1_0.index t 1 = 0 := congrFun (index0 t) 1
  match a with
  | 0 =>
    blk_simp
    show _ = (512 * t.val + (x 0).val) % 4096
    omega
  | 1 =>
    blk_simp
    show _ = (x 1).val % 1000
    omega

theorem before_a (c : Dev nD) (t : Fin cfg1.N) (d) : (dat V b c).before 1 t d = idxBlk (opA V c) t.val := by
  rw [(dat V b c).before_fetched 1 t (fetch1_1 t) d]
  funext x
  show V c main_v2 ((win1_1.blk t).view.emb x) = V c main_v2 (iBlk t.val (x 2).val)
  congr 1
  funext (a : Fin 3)
  apply Fin.ext
  have ht : t.val < 8 := t.isLt
  have hx0 : (x 0).val < 1 := (x 0).isLt
  have hx1 : (x 1).val < 1 := (x 1).isLt
  have hx2 : (x 2).val < 512 := (x 2).isLt
  have e0 : win1_1.index t 0 = t.val := congrFun (index1 t) 0
  have e1 : win1_1.index t 1 = 0 := congrFun (index1 t) 1
  have e2 : win1_1.index t 2 = 0 := congrFun (index1 t) 2
  match a with
  | 0 =>
    blk_simp
    show _ = t.val % 8
    omega
  | 1 =>
    blk_simp
    show _ = 0 % 1
    omega
  | 2 =>
    blk_simp
    show _ = (x 2).val % 512
    omega

theorem before_b (c : Dev nD) (t : Fin cfg1.N) (d) : (dat V b c).before 2 t d = idxBlk (opB V c) t.val := by
  rw [(dat V b c).before_fetched 2 t (fetch1_2 t) d]
  funext x
  show V c main_v5 ((win1_2.blk t).view.emb x) = V c main_v5 (iBlk t.val (x 2).val)
  congr 1
  funext (a : Fin 3)
  apply Fin.ext
  have ht : t.val < 8 := t.isLt
  have hx0 : (x 0).val < 1 := (x 0).isLt
  have hx1 : (x 1).val < 1 := (x 1).isLt
  have hx2 : (x 2).val < 512 := (x 2).isLt
  have e0 : win1_2.index t 0 = t.val := congrFun (index2 t) 0
  have e1 : win1_2.index t 1 = 0 := congrFun (index2 t) 1
  have e2 : win1_2.index t 2 = 0 := congrFun (index2 t) 2
  match a with
  | 0 =>
    blk_simp
    show _ = t.val % 8
    omega
  | 1 =>
    blk_simp
    show _ = 0 % 1
    omega
  | 2 =>
    blk_simp
    show _ = (x 2).val % 512
    omega

/-- The scratch arrays after point `n` are the same assertion in every case. -/
theorem phi_succ (c : Dev nD) (n : ℕ) :
    PhiAt V c (n + 1) = iprop(pt c gM (gramAcc (opP V c) n) ∗ pt c mM (maskAcc (opA V c) (opB V c) n)) := rfl

theorem pt_gM (c : Dev nD) (f : Bf (F := F) c gM) : (pt c gM f : sProp 𝕄) = (((c : Thread nD τ).loc cc1_scratch0) ↦{fullShare} f) := by
  unfold pt
  rw [show gM.view.set = Finset.univ from View.set_whole _]
theorem pt_mM (c : Dev nD) (f : Bf (F := F) c mM) : (pt c mM f : sProp 𝕄) = (((c : Thread nD τ).loc cc1_scratch1) ↦{fullShare} f) := by
  unfold pt
  rw [show mM.view.set = Finset.univ from View.set_whole _]

/-- Before the first point the scratch arrays hold something, -/
theorem phi_zero (c : Dev nD) : PhiAt V c 0 ⊢ iprop((∃ f : Bf (F := F) c gM, pt c gM f) ∗ ∃ f : Bf (F := F) c mM, pt c mM f) := by
  refine (Entails.of_eq (scopedRest1_eq c)).trans ?_
  iintro ⟨⟨%f, H⟩, %f', H'⟩
  isplitl [H]
  · iexists f; rw [pt_gM]; iexact H
  · iexists f'; rw [pt_mM]; iexact H'

/-- and after the last they go back. -/
theorem phi_out (c : Dev nD) (f : Bf (F := F) c gM) (f' : Bf (F := F) c mM) :
    iprop(pt c gM f ∗ pt c mM f')
      ⊢ (Pipeline.scopedRest (Ix := HIx 1) (Name := ℕ) (U := UU) (Lvl := ℕ) (Val := Elt F) spec1 c : sProp 𝕄) := by
  refine BI.Entails.trans ?_ (Entails.of_eq (scopedRest1_eq c).symm)
  rw [pt_gM, pt_mM]
  exact BIClass.sep_mono (BIClass.exists_intro (Φ := fun f : Bf (F := F) c gM => (((c : Thread nD τ).loc cc1_scratch0) ↦{fullShare} f : sProp 𝕄)) f)
    (BIClass.exists_intro (Φ := fun f : Bf (F := F) c mM => (((c : Thread nD τ).loc cc1_scratch1) ↦{fullShare} f : sProp 𝕄)) f')

/-- The condition for writing the scalar, at a point. -/
theorem idle_val (t : Fin cfg1.N) : idle1 3 (grid1.coords t) = decide (t.val ≠ 7) := by
  have h : ∀ t : Fin grid1.N, idle1 3 (grid1.coords t) = decide (t.val ≠ 7) := by decide +kernel
  exact h t

/-- A program whose triple is known, run where it stands. -/
theorem wp_use {Ef : Type → Type} {α : Type} {E : Set ℕ} (W : Set ℕ → ∀ ⦃β : Type⦄, Ef β → sWPT 𝕄 β)
    [∀ ⦃β : Type⦄ (e : Ef β), sWPT.Frameable (W E e)] {p : Prog Ef α} {P : sProp 𝕄} {R Q : α → sProp 𝕄}
    (h : P ⊢ wp frame W E p R) : iprop(P ∗ (∀ a, R a -∗ Q a)) ⊢ wp frame W E p Q :=
  (sep_mono h .rfl).trans (wp_wand_r frame W E)

theorem body_obligation (c : Dev nD) : BodyObligation (dat V b c) (defs₀ (F := F)) 𝒱₀ none Set.univ := fun t => by
  have hc : ((grid1.coords t) 0).val = t.val := coords_val t
  have ht8 : t.val < 8 := t.isLt
  rw [bigSep_W1, bigSep_W1]
  simp only
  rw [show (dat V b c).owesAt none t.succ = (dat V b c).owesAt none t.castSucc from rfl,
    show (dat V b c).Φ t.castSucc = PhiAt V c t.val from rfl, show (dat V b c).Φ t.succ = PhiAt V c (t.val + 1) from rfl,
    phi_succ, idle_val]
  rw [show defs₀ (F := F) .tc 1 (t, cfg1.slots t) = bodyAt1 t from rfl]
  unfold owns
  by_cases h7 : t.val = 7
  · have hfl : (win1 3).flush t = true := (flush1_3 t).2 (by omega)
    rw [show decide (t.val ≠ 7) = false from decide_eq_false (fun h => h h7)]
    simp only
    rw [show PhiAt V c t.val = PhiAt V c (6 + 1) from congrArg (PhiAt V c) h7, phi_succ]
    iintro ⟨⟨Hg, Hm⟩, Howes, ⟨%d0, %f0, %hf0, H0⟩, ⟨%d1, %f1, %hf1, H1⟩, ⟨%d2, %f2, %hf2, H2⟩, %d3, %f3, -, H3⟩
    rw [before_mat] at hf0
    rw [before_a] at hf1
    rw [before_b] at hf2
    iapply (wp_use _ (body_last c (grid1.coords t) _ _ _ _ _ _ _ _ (hc.trans h7) f0 f1 f2 (gramAcc (opP V c) 6) (maskAcc (opA V c) (opB V c) 6) f3))
    isplitl [Hg Hm H0 H1 H2 H3]
    · isplitl [H0]; · iexact H0
      isplitl [H1]; · iexact H1
      isplitl [H2]; · iexact H2
      isplitl [Hg]; · iexact Hg
      isplitl [Hm]; · iexact Hm
      iexact H3
    iintro %_ ⟨H0, H1, H2, Hg, Hm, %f4, %hf4, H3⟩
    have eg : k1_pay5 ((win1_0.stage (cfg1.slots t 0)).view.read (Elt F) f0) (gramAcc (opP V c) 6) = gramAcc (opP V c) t.val := by
      refine (congrArg (fun z => k1_pay5 z (gramAcc (opP V c) 6)) hf0).trans ?_
      rw [h7]; rfl
    have em : k1_pay6 ((win1_1.stage (cfg1.slots t 1)).view.read (Elt F) f1) ((win1_2.stage (cfg1.slots t 2)).view.read (Elt F) f2) (maskAcc (opA V c) (opB V c) 6) = maskAcc (opA V c) (opB V c) t.val := by
      refine (congrArg₂ (fun z z' => k1_pay6 z z' (maskAcc (opA V c) (opB V c) 6)) hf1 hf2).trans ?_
      rw [h7]; rfl
    isplitl [Hg Hm]
    · isplitl [Hg]
      · iapply (Entails.of_eq (congrArg (pt c gM) eg)); iexact Hg
      iapply (Entails.of_eq (congrArg (pt c mM) em)); iexact Hm
    isplitl [Howes]; · iexact Howes
    isplitl [H0]; · iexists f0; isplitr; (· ipureintro; exact hf0); iexact H0
    isplitl [H1]; · iexists f1; isplitr; (· ipureintro; exact hf1); iexact H1
    isplitl [H2]; · iexists f2; isplitr; (· ipureintro; exact hf2); iexact H2
    iexists f4
    isplitr
    · ipureintro
      refine hf4.trans ((congrArg₂ k1_pay7 eg em).trans ?_)
      rw [h7]; rfl
    iexact H3
  have hfl : (win1 3).flush t = false := by
    rw [Bool.eq_false_iff]
    exact fun h => absurd ((flush1_3 t).1 h) (by omega)
  rw [show decide (t.val ≠ 7) = true from decide_eq_true h7]
  simp only [hfl]
  by_cases h0 : t.val = 0
  · rw [show PhiAt V c t.val = PhiAt V c 0 from congrArg (PhiAt V c) h0]
    iintro ⟨HΦ, Howes, ⟨%d0, %f0, %hf0, H0⟩, ⟨%d1, %f1, %hf1, H1⟩, ⟨%d2, %f2, %hf2, H2⟩, H3⟩
    ihave HΦ := phi_zero V c $$ HΦ
    icases HΦ with ⟨⟨%g, Hg⟩, %k, Hm⟩
    rw [before_mat] at hf0
    rw [before_a] at hf1
    rw [before_b] at hf2
    iapply (wp_use _ (body_first c (grid1.coords t) _ _ _ _ _ _ (win1_3.stage (cfg1.slots t 3)) _ (hc.trans h0) f0 f1 f2 g k))
    isplitl [Hg Hm H0 H1 H2]
    · isplitl [H0]; · iexact H0
      isplitl [H1]; · iexact H1
      isplitl [H2]; · iexact H2
      isplitl [Hg]; · iexact Hg
      iexact Hm
    iintro %_ ⟨H0, H1, H2, Hg, Hm⟩
    have eg : k1_pay3 ((win1_0.stage (cfg1.slots t 0)).view.read (Elt F) f0) = gramAcc (opP V c) t.val := by
      refine (congrArg k1_pay3 hf0).trans ?_
      rw [h0]; rfl
    have em : k1_pay4 ((win1_1.stage (cfg1.slots t 1)).view.read (Elt F) f1) ((win1_2.stage (cfg1.slots t 2)).view.read (Elt F) f2) = maskAcc (opA V c) (opB V c) t.val := by
      refine (congrArg₂ k1_pay4 hf1 hf2).trans ?_
      rw [h0]; rfl
    isplitl [Hg Hm]
    · isplitl [Hg]
      · iapply (Entails.of_eq (congrArg (pt c gM) eg)); iexact Hg
      iapply (Entails.of_eq (congrArg (pt c mM) em)); iexact Hm
    isplitl [Howes]; · iexact Howes
    isplitl [H0]; · iexists f0; isplitr; (· ipureintro; exact hf0); iexact H0
    isplitl [H1]; · iexists f1; isplitr; (· ipureintro; exact hf1); iexact H1
    isplitl [H2]; · iexists f2; isplitr; (· ipureintro; exact hf2); iexact H2
    iexact H3
  · obtain ⟨n, hn⟩ : ∃ n, t.val = n + 1 := ⟨t.val - 1, by omega⟩
    rw [show PhiAt V c t.val = PhiAt V c (n + 1) from congrArg (PhiAt V c) hn, phi_succ]
    iintro ⟨⟨Hg, Hm⟩, Howes, ⟨%d0, %f0, %hf0, H0⟩, ⟨%d1, %f1, %hf1, H1⟩, ⟨%d2, %f2, %hf2, H2⟩, H3⟩
    rw [before_mat] at hf0
    rw [before_a] at hf1
    rw [before_b] at hf2
    iapply (wp_use _ (body_later c (grid1.coords t) _ _ _ _ _ _ (win1_3.stage (cfg1.slots t 3)) _ (by omega) (by omega) f0 f1 f2
      (gramAcc (opP V c) n) (maskAcc (opA V c) (opB V c) n)))
    isplitl [Hg Hm H0 H1 H2]
    · isplitl [H0]; · iexact H0
      isplitl [H1]; · iexact H1
      isplitl [H2]; · iexact H2
      isplitl [Hg]; · iexact Hg
      iexact Hm
    iintro %_ ⟨H0, H1, H2, Hg, Hm⟩
    have eg : k1_pay5 ((win1_0.stage (cfg1.slots t 0)).view.read (Elt F) f0) (gramAcc (opP V c) n) = gramAcc (opP V c) t.val := by
      refine (congrArg (fun z => k1_pay5 z (gramAcc (opP V c) n)) hf0).trans ?_
      rw [hn]; rfl
    have em : k1_pay6 ((win1_1.stage (cfg1.slots t 1)).view.read (Elt F) f1) ((win1_2.stage (cfg1.slots t 2)).view.read (Elt F) f2) (maskAcc (opA V c) (opB V c) n) = maskAcc (opA V c) (opB V c) t.val := by
      refine (congrArg₂ (fun z z' => k1_pay6 z z' (maskAcc (opA V c) (opB V c) n)) hf1 hf2).trans ?_
      rw [hn]; rfl
    isplitl [Hg Hm]
    · isplitl [Hg]
      · iapply (Entails.of_eq (congrArg (pt c gM) eg)); iexact Hg
      iapply (Entails.of_eq (congrArg (pt c mM) em)); iexact Hm
    isplitl [Howes]; · iexact Howes
    isplitl [H0]; · iexists f0; isplitr; (· ipureintro; exact hf0); iexact H0
    isplitl [H1]; · iexists f1; isplitr; (· ipureintro; exact hf1); iexact H1
    isplitl [H2]; · iexists f2; isplitr; (· ipureintro; exact hf2); iexact H2
    iexact H3

/-! ## The call as a segment -/

/-- No table is prefetched. -/
abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V b c

/-- The scalar's array after the call. -/
theorem arr_out (c : Dev nD) : (dat V b c).arrAt 3 cfg1.N = mutexVal (opP V c) (opA V c) (opB V c) := by
  refine Dat.arrAt_eq_of_after_last (dat := dat V b c) 3 t1_7 (by decide +kernel) (mutexVal (opP V c) (opA V c) (opB V c)) fun j => ?_
  have h : ∀ x y : S1x1.Idx, mutexVal (opP V c) (opA V c) (opB V c) x = mutexVal (opP V c) (opA V c) (opB V c) y := fun x y =>
    congrArg _ (funext fun a => by revert a x y; decide)
  exact (cast_eq _ _).trans (h (fun a => ⟨(j a).val, by revert a; revert j; decide +kernel⟩) ((cfg1.win 3).arr.view.emb j))

variable (Vp : Bufs F)

/-- What the core's waits were recorded at. -/
abbrev recBelow (c : Dev nD) : sProp 𝕄 :=
  iprop(∃ W, ⌜(K (F := F)).WBelow (c : Thread nD τ) W b⌝ ∗ owes (c : Thread nD τ) (0 : CellTallies nD τ sig (HIx 1)) W)

set_option backward.isDefEq.respectTransparency.types false in
/-- The call, entered from the unscoped buffers at `V` and left with them at `Vp`: `V` with the scalar written. -/
def reg (hVp_out : ∀ c, Vp c main_v12 = mutexVal (opP V c) (opA V c) (opB V c))
    (hVp_ne : ∀ c (r : Ref sig .tc), r ≠ main_v12 → Vp c r = V c r) :
    Pipeline.RegionSeg (pcfgs (F := F)) adm (pdats V b) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V b c).loose
  hwaits := Pipeline.hwaits_of_owed_zero _ _ _ _ _ _ 0 fun _ _ => rfl
  pre c := iprop(unscopedBufs c (V c) ∗ recBelow b c)
  post c := iprop(unscopedBufs c (Vp c) ∗ recBelow b c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V b) launch1.win launch1.arr_whole c
      ((pdats V b 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V b 0 c).Φ 0 = Pipeline.scopedRest spec1 c from rfl]
    iintro ⟨-, -, Hr⟩; iexact Hr
  hout c := by
    rw [Pipeline.ownSems0_none, show (pdats V b 0 c).Φ (Fin.last _)
      = iprop(pt c gM (gramAcc (opP V c) 7) ∗ pt c mM (maskAcc (opA V c) (opB V c) 7)) from rfl]
    iintro Hr
    isplitr; · iempintro
    isplitr; · iempintro
    iapply (phi_out c _ _); iexact Hr
  hexit c := by
    have hjoin := Pipeline.unscopedBufs_of_arrays (p := 0) (pcfgs (F := F)) adm (Ix := HIx 1) (Name := ℕ) (U := UU) (Lvl := ℕ) launch1.win launch1.arr_whole c
      (pdats V b) ((pdats V b 0 c).share_full fun _ => rfl) (V c) (Vp c) ((pdats V b 0 c).arrAt · cfg1.N)
      (fun w => by
        fin_cases w
        · exact ((pdats V b 0 c).arrAt_in 0 rfl _).trans (hVp_ne c main_arg0 (by decide)).symm
        · exact ((pdats V b 0 c).arrAt_in 1 rfl _).trans (hVp_ne c main_v2 (by decide)).symm
        · exact ((pdats V b 0 c).arrAt_in 2 rfl _).trans (hVp_ne c main_v5 (by decide)).symm
        · exact (arr_out V b c).trans (hVp_out c).symm)
      (fun r hr => hVp_ne c r fun h => hr (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

end Cert.Proof.Loss
-- ==== Proof.Launch.lean ====
/-
  # @main on the TensorCore, and the program's run

  @main is a straight line of host operations, the SparseCore call, the TensorCore call and a second straight line. The
  buffers' contents are followed through the four: `V1` after the first line, `V2` with the SparseCore call's array
  written, `V3` with the TensorCore call's scalar written, `V4` at the end.
-/
module

public import proofs.«01_k».proof.Proof.Deal
public import proofs.«01_k».proof.Proof.TcRegion

@[expose] public section

noncomputable section

namespace Cert.Proof.Loss

open Cert.KernelIdeal Cert.KernelIdeal.Gen

open Idealize.ShloMosaic
open Idealize.ShloMosaic.TcCoe
open Idealize.ShloMosaic.SparseCore.Cfg (HIx)
open Idealize.ShloMosaic.StableHlo (held tcRefs seq after launchContents held_sub_split held_congr)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The two straight lines -/

def preOps : List (HloOp τ sig (Elt F)) :=
  [StableHlo.unary main_arg1 main_v0 ((extractStridedSlice S4096x1 ![0, 0] · slices_S4096x2_S4096x1_0_0) : (⟨S4096x2, .i32⟩ : BufTy).Contents (Elt F) → (⟨S4096x1, .i32⟩ : BufTy).Contents (Elt F)),
   StableHlo.reshape main_v0 main_v1 (rfl : (.i32 : EltTy) = .i32) shapeCasts_S4096x1_S4096,
   StableHlo.reshape main_v1 main_v2 (rfl : (.i32 : EltTy) = .i32) shapeCasts_S4096_S8x1x512,
   StableHlo.unary main_arg1 main_v3 ((extractStridedSlice S4096x1 ![0, 1] · slices_S4096x2_S4096x1_0_1) : (⟨S4096x2, .i32⟩ : BufTy).Contents (Elt F) → (⟨S4096x1, .i32⟩ : BufTy).Contents (Elt F)),
   StableHlo.reshape main_v3 main_v4 (rfl : (.i32 : EltTy) = .i32) shapeCasts_S4096x1_S4096,
   StableHlo.reshape main_v4 main_v5 (rfl : (.i32 : EltTy) = .i32) shapeCasts_S4096_S8x1x512,
   StableHlo.unary main_arg2 main_v6 ((extractStridedSlice S4096x1 ![0, 0] · slices_S4096x2_S4096x1_0_0) : (⟨S4096x2, .i32⟩ : BufTy).Contents (Elt F) → (⟨S4096x1, .i32⟩ : BufTy).Contents (Elt F)),
   StableHlo.reshape main_v6 main_v7 (rfl : (.i32 : EltTy) = .i32) shapeCasts_S4096x1_S4096,
   StableHlo.unary main_arg2 main_v8 ((extractStridedSlice S4096x1 ![0, 1] · slices_S4096x2_S4096x1_0_1) : (⟨S4096x2, .i32⟩ : BufTy).Contents (Elt F) → (⟨S4096x1, .i32⟩ : BufTy).Contents (Elt F)),
   StableHlo.reshape main_v8 main_v9 (rfl : (.i32 : EltTy) = .i32) shapeCasts_S4096x1_S4096,
   StableHlo.reshape main_arg0 main_v10 (rfl : (.f32 : EltTy) = .f32) shapeCasts_S4096x1000_S4096000]

def postOps : List (HloOp τ sig (Elt F)) :=
  [StableHlo.reshape main_v12 main_v13 (rfl : (.f32 : EltTy) = .f32) shapeCasts_S1x1_S_,
   StableHlo.nullary main_cst (constant S_ .f32 0x00000000#32),
   StableHlo.binary main_v11 main_cst main_v14 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.binary main_v14 main_v13 main_v15 (addf : (⟨S_, .f32⟩ : BufTy).Contents (Elt F) → (⟨S_, .f32⟩ : BufTy).Contents (Elt F) → (⟨S_, .f32⟩ : BufTy).Contents (Elt F)),
   StableHlo.nullary main_cst_0 (constant S_ .f32 0x39800000#32),
   StableHlo.binary main_v15 main_cst_0 main_v16 (mulf : (⟨S_, .f32⟩ : BufTy).Contents (Elt F) → (⟨S_, .f32⟩ : BufTy).Contents (Elt F) → (⟨S_, .f32⟩ : BufTy).Contents (Elt F))]

theorem main_eq (d : Dev nD) : main (F := F) d = (seq preOps >>= fun _ => (K (F := F)).run d 0 >>= fun _ =>
    Prog.lift (.customCall (SparseCore.inner (Pipeline.entry 0)) ()) >>= fun _ => seq postOps >>= fun _ => pure ⟨⟩) := rfl

/-! ## The buffers' contents -/

/-- The unscoped buffers of a TensorCore. -/
def ucRefs : Finset (DevRef τ sig) := (tcRefs τ sig).filter fun b => ¬ b.isScoped

theorem mem_ucRefs (b : Ref sig .tc) (h : b.isScoped = false) : Proc.devRef (τ := τ) .tc b ∈ ucRefs :=
  Finset.mem_filter.2 ⟨StableHlo.devRef_mem_tcRefs b, by rw [show (Proc.devRef (τ := τ) .tc b).isScoped = b.isScoped from rfl, h]; decide⟩

theorem unscoped_held (d : Dev nD) (W : Valuation τ sig (Elt F)) :
    (unscopedBufs d (fun b => W (Proc.devRef .tc b)) : sProp 𝕄) = held (d : Thread nD τ) ucRefs W := by
  unfold unscopedBufs StableHlo.held ucRefs StableHlo.tcRefs
  rw [Finset.filter_map, bigSep_map]; rfl

theorem pre_sub : ∀ op ∈ preOps (F := F), op.bufs ⊆ ucRefs := by
  intro op hop
  unfold preOps at hop
  simp only [List.mem_cons, List.not_mem_nil, or_false] at hop
  rcases hop with rfl | rfl | rfl | rfl | rfl | rfl | rfl | rfl | rfl | rfl | rfl <;>
    exact Finset.insert_subset (mem_ucRefs _ rfl) (Finset.singleton_subset_iff.2 (mem_ucRefs _ rfl))
theorem pre_fresh : ∀ op ∈ preOps (F := F), op.fresh = ∅ := by
  intro op hop
  unfold preOps at hop
  simp only [List.mem_cons, List.not_mem_nil, or_false] at hop
  rcases hop with rfl | rfl | rfl | rfl | rfl | rfl | rfl | rfl | rfl | rfl | rfl <;> rfl
theorem post_sub : ∀ op ∈ postOps (F := F), op.bufs ⊆ ucRefs := by
  intro op hop
  unfold postOps at hop
  simp only [List.mem_cons, List.not_mem_nil, or_false] at hop
  rcases hop with rfl | rfl | rfl | rfl | rfl | rfl
  · exact Finset.insert_subset (mem_ucRefs _ rfl) (Finset.singleton_subset_iff.2 (mem_ucRefs _ rfl))
  · exact Finset.singleton_subset_iff.2 (mem_ucRefs _ rfl)
  · exact Finset.insert_subset (mem_ucRefs _ rfl) (Finset.insert_subset (mem_ucRefs _ rfl) (Finset.singleton_subset_iff.2 (mem_ucRefs _ rfl)))
  · exact Finset.insert_subset (mem_ucRefs _ rfl) (Finset.insert_subset (mem_ucRefs _ rfl) (Finset.singleton_subset_iff.2 (mem_ucRefs _ rfl)))
  · exact Finset.singleton_subset_iff.2 (mem_ucRefs _ rfl)
  · exact Finset.insert_subset (mem_ucRefs _ rfl) (Finset.insert_subset (mem_ucRefs _ rfl) (Finset.singleton_subset_iff.2 (mem_ucRefs _ rfl)))
theorem post_fresh : ∀ op ∈ postOps (F := F), op.fresh = ∅ := by
  intro op hop
  unfold postOps at hop
  simp only [List.mem_cons, List.not_mem_nil, or_false] at hop
  rcases hop with rfl | rfl | rfl | rfl | rfl | rfl <;> rfl

variable (m : (ℓ : Loc nD τ sig) → Buf (Elt F) ℓ) (ρ : Dev nD → PrngReg)

def V1 (d : Dev nD) : Valuation τ sig (Elt F) := after preOps (launchContents m d)
abbrev X1 (d : Dev nD) : Vec F S4096000 .f32 := V1 m d (Proc.devRef .tc main_v10)
abbrev A1 (d : Dev nD) : Vec F S4096 .i32 := V1 m d (Proc.devRef .tc main_v7)
abbrev B1 (d : Dev nD) : Vec F S4096 .i32 := V1 m d (Proc.devRef .tc main_v9)
def V2 (d : Dev nD) : Valuation τ sig (Elt F) :=
  Function.update (V1 m d) (Proc.devRef .tc main_v11) (partials (X1 m d) (A1 m d) (B1 m d))
abbrev V2r : Bufs F := fun c b => V2 m c (Proc.devRef .tc b)
def V3 (d : Dev nD) : Valuation τ sig (Elt F) :=
  Function.update (V2 m d) (Proc.devRef .tc main_v12) (mutexVal (opP (V2r m) d) (opA (V2r m) d) (opB (V2r m) d))
abbrev V3r : Bufs F := fun c b => V3 m c (Proc.devRef .tc b)
def V4 (d : Dev nD) : Valuation τ sig (Elt F) := after postOps (V3 m d)

theorem V3_out (c : Dev nD) : V3r m c main_v12 = mutexVal (opP (V2r m) c) (opA (V2r m) c) (opB (V2r m) c) := by
  unfold V3r V3; exact Function.update_self _ _ _
theorem V3_ne (c : Dev nD) (r : Ref sig .tc) (h : r ≠ main_v12) : V3r m c r = V2r m c r := by
  unfold V3r V3
  exact Function.update_of_ne (fun e => h (Proc.devRef_injective _ e)) _ _

abbrev scRefs : Finset (DevRef τ sig) :=
  {Proc.devRef .tc main_v10, Proc.devRef .tc main_v7, Proc.devRef .tc main_v9, Proc.devRef .tc main_v11}
theorem scRefs_sub : scRefs ⊆ ucRefs :=
  Finset.insert_subset (mem_ucRefs _ rfl) (Finset.insert_subset (mem_ucRefs _ rfl) (Finset.insert_subset (mem_ucRefs _ rfl)
    (Finset.singleton_subset_iff.2 (mem_ucRefs _ rfl))))

theorem held_sc (d : Dev nD) (W : Valuation τ sig (Elt F)) :
    (held (d : Thread nD τ) scRefs W : sProp 𝕄)
      = iprop(xPts d fullShare (W (Proc.devRef .tc main_v10)) ∗ aPts d fullShare (W (Proc.devRef .tc main_v7))
          ∗ bPts d fullShare (W (Proc.devRef .tc main_v9)) ∗ oPts d Finset.univ (W (Proc.devRef .tc main_v11))) := by
  unfold StableHlo.held scRefs
  rw [SparseCore.bigSep_insert' (by decide), SparseCore.bigSep_insert' (by decide), SparseCore.bigSep_insert' (by decide), bigSep_singleton]

/-! ## The launch element -/

def u₀ : UU := (initOf (K (F := F)).hsCells (K (F := F)).hsToks, (initOf (Pipeline.cells (nD := nD) (τ := τ) cfgs cellOf_inj) (Pipeline.launchToks (nD := nD) (τ := τ) cfgs cellOf_inj), 1))

abbrev G (d : Dev nD) : sProp 𝕄 := iprop(Pipeline.cellsGhost cfgs EP 0 d ∗ Pipeline.toksInit cfgs EP 0 d)

theorem bigSep_emp' {I : Type} (s : Finset I) : (bigSep s fun _ => iprop(emp)) = (iprop(emp) : sProp 𝕄) := bigSep_emp_const s

theorem bigSep_one (Φ : Dev nD → Fin 1 → sProp 𝕄) :
    (bigSep Finset.univ fun c : Dev nD => bigSep Finset.univ fun p : Fin 1 => Φ c p) = bigSep Finset.univ fun c : Dev nD => Φ c 0 :=
  bigSep_congr fun _ _ => bigSep_univ_of_subsingleton (0 : Fin 1)

theorem fund_pipe : (BI.own (((Emb.inl : Emb UP (UP × Counters)).trans embR : Emb UP (MM F)) (initOf (Pipeline.cells (nD := nD) (τ := τ) cfgs cellOf_inj) (Pipeline.launchToks (nD := nD) (τ := τ) cfgs cellOf_inj))) : sProp 𝕄)
    ⊢ iprop(|==> ((bigSep Finset.univ fun c : Dev nD => Pipeline.cellsGhost cfgs (EP (F := F)) 0 c) ∗ (bigSep Finset.univ fun c : Dev nD => Pipeline.toksInit cfgs (EP (F := F)) 0 c))) := by
  have h := Pipeline.fund_ghost (nD := nD) (τ := τ) (Ix := HIx 1) (Val := Elt F) (Name := ℕ) (U := UU) (Lvl := ℕ) cfgs (EP (F := F)) cellOf_inj
  rw [bigSep_one, bigSep_one] at h
  exact h

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (X1 m) (A1 m) (B1 m)).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), 1) : UP × Counters)) $$ Hu
  icases H with ⟨HH, HR⟩
  ihave H := (own_pair_emb embR (initOf (Pipeline.cells (nD := nD) (τ := τ) cfgs cellOf_inj) (Pipeline.launchToks (nD := nD) (τ := τ) cfgs cellOf_inj)) (1 : Counters)) $$ HR
  icases H with ⟨HP, -⟩
  imod (fund_pipe (F := F)) $$ HP with ⟨Hg, Ht⟩
  imodintro
  isplitl [HH]; · iexact HH
  isplitl [Hg Ht]
  · rw [bigSep_sep']
    isplitl [Hg] <;> iassumption
  rw [show (bigSep Finset.univ fun thr : Thread nD τ => bigSep Finset.univ fun q : Fin 1 => (P (F := F) (X1 m) (A1 m) (B1 m)).x q thr) = bigSep Finset.univ fun _ => iprop(emp) from
    bigSep_congr fun _ _ => bigSep_univ_of_subsingleton (0 : Fin 1), bigSep_emp']
  iempintro

/-! ## @main -/

theorem tcSt_one (d : Dev nD) : ∃ (b : ℕ) (R : sProp 𝕄), (K (F := F)).tcSt EH d 1 = iprop(recBelow (F := F) b d ∗ R) := by
  unfold SparseCore.Cfg.tcSt recBelow
  rw [(K (F := F)).Otc_end d le_rfl]
  exact ⟨_, _, rfl⟩

abbrev FIN (d : Dev nD) : sProp 𝕄 := held (d : Thread nD τ) ucRefs (V4 m d)

/-- The SparseCore call, from the unscoped buffers after the first line to those with its array written. -/
theorem sc_pre (d : Dev nD) : (held (d : Thread nD τ) ucRefs (V1 m d) : sProp 𝕄)
    ⊢ iprop((bigSep Finset.univ fun c : Fin ((K (F := F)).nCore 0) => (P (X1 m) (A1 m) (B1 m)).st 0 d c) ∗ held (d : Thread nD τ) (ucRefs \ scRefs) (V1 m d)) := by
  rw [held_sub_split _ scRefs_sub, held_sc]
  iintro ⟨⟨Hx, Ha, Hb, Ho⟩, Hr⟩
  isplitr [Hr]
  · iapply (st_intro (X1 m) (A1 m) (B1 m) d (V1 m d (Proc.devRef .tc main_v11)))
    isplitr [Ho]
    · unfold ops3
      isplitl [Hx]; · iexact Hx
      isplitl [Ha]; · iexact Ha
      iexact Hb
    iexact Ho
  iexact Hr
theorem sc_post (d : Dev nD) :
    iprop((bigSep Finset.univ fun c : Fin ((K (F := F)).nCore 0) => (P (X1 m) (A1 m) (B1 m)).dn 0 d c) ∗ held (d : Thread nD τ) (ucRefs \ scRefs) (V1 m d))
      ⊢ (held (d : Thread nD τ) ucRefs (V2 m d) : sProp 𝕄) := by
  rw [held_sub_split (d : Thread nD τ) scRefs_sub (V2 m d), held_sc]
  iintro ⟨Hdn, Hr⟩
  ihave H := (dn_elim (X1 m) (A1 m) (B1 m) d) $$ Hdn
  icases H with ⟨⟨Hx, Ha, Hb⟩, Ho⟩
  isplitr [Hr]
  · rw [show V2 m d (Proc.devRef .tc main_v10) = X1 m d from Function.update_of_ne (by decide) _ _,
      show V2 m d (Proc.devRef .tc main_v7) = A1 m d from Function.update_of_ne (by decide) _ _,
      show V2 m d (Proc.devRef .tc main_v9) = B1 m d from Function.update_of_ne (by decide) _ _,
      show V2 m d (Proc.devRef .tc main_v11) = partials (X1 m d) (A1 m d) (B1 m d) from Function.update_self _ _ _]
    isplitl [Hx]; · iexact Hx
    isplitl [Ha]; · iexact Ha
    isplitl [Hb]; · iexact Hb
    iexact Ho
  rw [show (held (d : Thread nD τ) (ucRefs \ scRefs) (V2 m d) : sProp 𝕄) = held (d : Thread nD τ) (ucRefs \ scRefs) (V1 m d) from
    held_congr _ fun b hb => Function.update_of_ne (fun e => (Finset.mem_sdiff.1 hb).2 (by rw [e]; decide)) _ _]
  iexact Hr

end Cert.Proof.Loss
-- ==== Proof.TcCall.lean ====
/-
  # The TensorCore call as @main makes it, and @main

  The call's segment applied at its place in @main, then @main on the TensorCore: the first straight line, the two calls,
  the second straight line.
-/
module

public import proofs.«01_k».proof.Proof.Launch
public import proofs.«01_k».proof.Proof.TcRegion

@[expose] public section

noncomputable section

namespace Cert.Proof.Loss

open Cert.KernelIdeal Cert.KernelIdeal.Gen

open Idealize.ShloMosaic
open Idealize.ShloMosaic.TcCoe
open Idealize.ShloMosaic.SparseCore.Cfg (HIx)
open Idealize.ShloMosaic.StableHlo (held tcRefs seq after launchContents held_sub_split held_congr)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

theorem pin_inj : Function.Injective (Pipeline.cellOf (nD := nD) (τ := τ) (Pipeline.pin (pcfgs (F := F)) adm)) := cellOf_inj

variable (V Vp : Bufs F) (b : ℕ)

theorem tc_region [∀ e, Nonempty (Elt F e)] (hVp_out : ∀ c, Vp c main_v12 = mutexVal (opP V c) (opA V c) (opB V c))
    (hVp_ne : ∀ c (r : Ref sig .tc), r ≠ main_v12 → Vp c r = V c r) (d : Dev nD) (Φ : PUnit → sProp 𝕄) :
    iprop((iprop(boundary (d.tc : Thread nD τ) ∗ (unscopedBufs d (Vp d) ∗ recBelow (F := F) b d)) -∗ wp frame (wpE (D (F := F)) 𝒱 (d.tc : Thread nD τ) none) Set.univ (.ret ⟨⟩) Φ)
        ∗ boundary (d.tc : Thread nD τ) ∗ (unscopedBufs d (V d) ∗ recBelow (F := F) b d) ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE (D (F := F)) 𝒱 (d.tc : Thread nD τ) none) Set.univ (.op (.customCall (Pipeline.entry 0) ()) fun _ => .ret ⟨⟩) Φ :=
  by
  have e1 : (reg V b Vp hVp_out hVp_ne).pre d = iprop(unscopedBufs d (V d) ∗ recBelow (F := F) b d) := rfl
  have e2 : (reg V b Vp hVp_out hVp_ne).post d = iprop(unscopedBufs d (Vp d) ∗ recBelow (F := F) b d) := rfl
  have h := fun hv => Pipeline.RegionSeg.wp (pcfgs (F := F)) adm (pdats V b) (none : HIx 1) (pin_inj (F := F)) (EP (F := F)) defs₀ 𝒱₀ (K (F := F)).L (K (F := F)).lev
    (reg V b Vp hVp_out hVp_ne) d none hv (fun _ => .ret (⟨⟩ : PUnit)) Φ
  rw [e1, e2] at h
  exact h (fun u hu => by cases hu)

variable (m : (ℓ : Loc nD τ sig) → Buf (Elt F) ℓ) (ρ : Dev nD → PrngReg)

theorem wand_ret (d : Dev nD) (A : sProp 𝕄) (Φ : PUnit → sProp 𝕄) :
    iprop(A -∗ Φ ⟨⟩) ⊢ iprop(A -∗ wp frame (wpE (D (F := F)) 𝒱 (d.tc : Thread nD τ) none) Set.univ (.ret ⟨⟩) Φ) := by
  rw [wp_ret]
  iintro H Hk
  imodintro
  iapply H; iexact Hk

theorem tc_pre [∀ e, Nonempty (Elt F e)] (d : Dev nD) (Φ : PUnit → sProp 𝕄) :
    iprop((iprop(boundary (d.tc : Thread nD τ) ∗ held (d.tc : Thread nD τ) ucRefs (V3 m d) ∗ recBelow (F := F) b d) -∗ Φ ⟨⟩)
        ∗ boundary (d.tc : Thread nD τ) ∗ (held (d.tc : Thread nD τ) ucRefs (V2 m d) ∗ recBelow (F := F) b d) ∗ levAts (K (F := F)).L (K (F := F)).lev ∗ G (F := F) d)
      ⊢ wp frame (wpE (D (F := F)) 𝒱 (d.tc : Thread nD τ) none) Set.univ (.op (.customCall (Pipeline.entry 0) ()) fun _ => .ret ⟨⟩) Φ := by
  have h := tc_region (V2r m) (V3r m) b (V3_out m) (V3_ne m) d Φ
  rw [unscoped_held d (V2 m d), unscoped_held d (V3 m d)] at h
  exact BI.Entails.trans (sep_mono_left (wand_ret d _ Φ)) h

theorem tc_call [∀ e, Nonempty (Elt F e)] (d : Dev nD) (Φ : PUnit → sProp 𝕄) :
    iprop((iprop(boundary (d.tc : Thread nD τ) ∗ held (d.tc : Thread nD τ) ucRefs (V3 m d) ∗ recBelow (F := F) b d) -∗ Φ ⟨⟩)
        ∗ boundary (d.tc : Thread nD τ) ∗ (held (d.tc : Thread nD τ) ucRefs (V2 m d) ∗ recBelow (F := F) b d) ∗ levAts (K (F := F)).L (K (F := F)).lev ∗ G (F := F) d)
      ⊢ wp frame (wpE ((K (F := F)).defs (D (F := F))) 𝒱 (SparseCore.T d) none) Set.univ (Prog.lift (.customCall (SparseCore.inner (Pipeline.entry 0)) ())) Φ :=
by
  have h := (K (F := F)).wp_liftProg (D (F := F)) 𝒱 (SparseCore.T d) Set.univ none (.op (.customCall (Pipeline.entry 0) ()) fun _ => .ret ⟨⟩) Φ
  have e : SparseCore.liftProg (Q := 1) (.op (.customCall (Pipeline.entry 0) ()) fun _ => .ret ⟨⟩ : Prog (TpuEff nD τ sig (Elt F) (ΛP (F := F)) .tc) PUnit)
      = Prog.lift (.customCall (SparseCore.inner (Pipeline.entry 0)) ()) := rfl
  exact BI.Entails.trans (tc_pre b m d Φ) (BI.Entails.trans h (Entails.of_eq (congrArg (fun p => wp frame (wpE ((K (F := F)).defs (D (F := F))) 𝒱 (SparseCore.T d) none) Set.univ p Φ) e)))

end Cert.Proof.Loss
-- ==== Proof.Main.lean ====
/-
  # @main on the TensorCore, and the program's run
-/
module

public import proofs.«01_k».proof.Proof.TcCall

@[expose] public section

noncomputable section

namespace Cert.Proof.Loss

open Cert.KernelIdeal Cert.KernelIdeal.Gen

open Idealize.ShloMosaic
open Idealize.ShloMosaic.TcCoe
open Idealize.ShloMosaic.SparseCore.Cfg (HIx)
open Idealize.ShloMosaic.StableHlo (held tcRefs seq after launchContents held_sub_split held_congr)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ) (ρ : Dev nD → PrngReg)

theorem line (d : Dev nD) (ops : List (HloOp τ sig (Elt F))) (hS : ∀ op ∈ ops, op.bufs ⊆ ucRefs) (hf : ∀ op ∈ ops, op.fresh = ∅) (V : Valuation τ sig (Elt F))
    (k : PUnit → Prog (TpuEff nD τ sig (Elt F) (SparseCore.Sig (ΛP (F := F)) 1) .tc) PUnit) (Φ : PUnit → sProp 𝕄) :
    iprop(boundary (d.tc : Thread nD τ) ∗ held (d.tc : Thread nD τ) ucRefs V)
      ⊢ iprop(((boundary (d.tc : Thread nD τ) ∗ held (d.tc : Thread nD τ) ucRefs (after ops V))
                -∗ wp frame (wpE ((K (F := F)).defs (D (F := F))) 𝒱 (SparseCore.T d) none) Set.univ (k ⟨⟩) Φ)
        -∗ wp frame (wpE ((K (F := F)).defs (D (F := F))) 𝒱 (SparseCore.T d) none) Set.univ (seq ops >>= k) Φ) :=
  StableHlo.wp_seq 𝒱 none Set.univ d ucRefs k ops hS hf V

theorem hmain [∀ e, Nonempty (Elt F e)] (κ : GSem nD τ sig → ℕ) (d : Dev nD) :
    iprop((K (F := F)).ctx EH (P (X1 m) (A1 m) (B1 m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨b, R, hR⟩ := tcSt_one (F := F) d
  unfold SparseCore.Cfg.tcRes SparseCore.Cfg.tcEnd
  rw [show (unscopedBufs d (fun b => m ((SparseCore.T d : Thread nD τ).loc b)) : sProp 𝕄) = held (d.tc : Thread nD τ) ucRefs (launchContents m d) from
    unscoped_held d (launchContents m d), main_eq]
  iintro ⟨#Hctx, Hst, ⟨Hb, Hheld, Hts, -⟩, HG⟩
  iapply (line d preOps pre_sub pre_fresh (launchContents m d) _ _) $$ [Hb Hheld]
  · isplitl [Hb]; · iexact Hb
    iexact Hheld
  iintro ⟨Hb, Hheld⟩
  rw [wp_bind]
  ihave Hheld := (Entails.of_eq (show (held (d.tc : Thread nD τ) ucRefs (after preOps (launchContents m d)) : sProp 𝕄) = held (d.tc : Thread nD τ) ucRefs (V1 m d) from rfl)) $$ Hheld
  ihave H := (sc_pre m d) $$ Hheld
  icases H with ⟨Hpay, Hrest⟩
  iapply ((K (F := F)).wp_run (D (F := F)) 𝒱 (EH := EH) (P := P (X1 m) (A1 m) (B1 m)) κ d 0) $$ [Hst Hpay Hb Hrest Hts HG]
  isplitr; · iexact Hctx
  isplitl [Hst]; · iexact Hst
  isplitl [Hpay]; · iexact Hpay
  iintro ⟨Hst, Hdn⟩
  ihave Hheld := (sc_post m d) $$ [Hdn Hrest]
  · isplitl [Hdn]; · iexact Hdn
    iexact Hrest
  ihave Hst := (Entails.of_eq (show (K (F := F)).tcSt EH d ((0 : Fin 1).val + 1) = iprop(recBelow (F := F) b d ∗ R) from hR)) $$ Hst
  icases Hst with ⟨Hrec, HR⟩
  rw [wp_bind]
  iapply (tc_call b m d _) $$ [Hb Hheld Hrec HG Hts HR]
  isplitr [Hb Hheld Hrec HG]
  · iintro ⟨Hb, Hheld, Hrec⟩
    iapply (line d postOps post_sub post_fresh (V3 m d) _ _) $$ [Hb Hheld]
    · isplitl [Hb]; · iexact Hb
      iexact Hheld
    iintro ⟨Hb, Hheld⟩
    rw [wp_pure]
    imodintro
    isplitl [Hrec HR]
    · iapply (Entails.of_eq hR.symm)
      isplitl [Hrec] <;> iassumption
    isplitl [Hheld]; · iexact Hheld
    isplitl [Hb] <;> iassumption
  isplitl [Hb]; · iexact Hb
  isplitl [Hheld Hrec]
  · isplitl [Hheld] <;> iassumption
  isplitr
  · iapply (SparseCore.Cfg.ctx_levAts κ); iexact Hctx
  iexact HG

def fq (d : Dev nD) (s' : Phys nD τ sig (Elt F)) : Prop := ∀ b ∈ ucRefs, s'.mem.mem (d, b) = V4 m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) ucRefs) $$ [HSI H]
  · isplitl [HSI]; · iexact HSI
    iexact H
  ipureintro
  exact h

def QC : PUnit × MemSt nD τ sig (Elt F) → Prop := fun r =>
  (∀ d : Dev nD, ∀ b ∈ ucRefs, r.2.mem (d, b) = V4 m d b) ∧ r.2.sem = fun _ => 0

theorem run_main [∀ e, Nonempty (Elt F e)] (hA : ∀ d, InRange (A1 m d)) (hB : ∀ d, InRange (B1 m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (X1 m) (A1 m) (B1 m)) (A := ∅) facts v₀
    (fun q hq => match q with | 0 => nomatch hq)
    (fun q _ => match q with | 0 => tileObl (X1 m) (A1 m) (B1 m) hA hB facts)
    (fun q _ => match q with | 0 => SparseCore.Cfg.VecSplit.of_plain (vecSplit (X1 m) (A1 m) (B1 m)))
    m ρ main (G (F := F)) (FIN m) (u₀ (F := F)) (sep_elim_left.trans (hu₀ m)) (hmain m ρ) (fq m) (hfin m) (QC m) (fun _ h hz => ⟨h, hz⟩)

end Cert.Proof.Loss
-- ==== Proof.Contents.lean ====
/-
  # The buffers' contents at the end of @main, as terms of the arguments
-/
module

public import proofs.«01_k».proof.Proof.Main

@[expose] public section

noncomputable section

namespace Cert.Proof.Loss

open Cert.KernelIdeal Cert.KernelIdeal.Gen

open Idealize.ShloMosaic
open Idealize.ShloMosaic.StableHlo (after launchContents)

variable {F : FTy → Type} [FloatOps F]

variable (m : (ℓ : Loc nD τ sig) → Buf (Elt F) ℓ)

/-- A column of a list of pairs. -/
def col0 (I : Vec F S4096x2 .i32) : Vec F S4096 .i32 := shapeCast S4096 (extractStridedSlice S4096x1 ![0, 0] I slices_S4096x2_S4096x1_0_0) shapeCasts_S4096x1_S4096
def col1 (I : Vec F S4096x2 .i32) : Vec F S4096 .i32 := shapeCast S4096 (extractStridedSlice S4096x1 ![0, 1] I slices_S4096x2_S4096x1_0_1) shapeCasts_S4096x1_S4096
def flat (P : Vec F S4096x1000 .f32) : Vec F S4096000 .f32 := shapeCast S4096000 P shapeCasts_S4096x1000_S4096000
def blocks (I : Vec F S4096 .i32) : Vec F S8x1x512 .i32 := shapeCast S8x1x512 I shapeCasts_S4096_S8x1x512

/-- @main's result from its arguments. -/
def lossVal (P : Vec F S4096x1000 .f32) (I J : Vec F S4096x2 .i32) : Vec F S_ .f32 :=
  mulf (addf (Host.reduceAdd (partials (flat P) (col0 J) (col1 J)) (constant S_ .f32 0x00000000#32) reducesTo_S32x16_S_d0_1 h_S_ : FVec F S_ .f32)
      (shapeCast S_ (mutexVal P (blocks (col0 I)) (blocks (col1 I))) shapeCasts_S1x1_S_))
    (constant S_ .f32 0x39800000#32)

variable (d : Dev nD)

abbrev Pm : Vec F S4096x1000 .f32 := m (d, Proc.devRef .tc main_arg0)
abbrev Im : Vec F S4096x2 .i32 := m (d, Proc.devRef .tc main_arg1)
abbrev Jm : Vec F S4096x2 .i32 := m (d, Proc.devRef .tc main_arg2)

theorem V1_arg0 : V1 m d (Proc.devRef .tc main_arg0) = Pm m d := by unfold V1 preOps; after_results_simp <;> rfl
theorem V1_arg1 : V1 m d (Proc.devRef .tc main_arg1) = Im m d := by unfold V1 preOps; after_results_simp <;> rfl
theorem V1_arg2 : V1 m d (Proc.devRef .tc main_arg2) = Jm m d := by unfold V1 preOps; after_results_simp <;> rfl
theorem X1_eq : X1 m d = flat (Pm m d) := by unfold X1 V1 preOps; after_results_simp <;> rfl
theorem A1_eq : A1 m d = col0 (Jm m d) := by unfold A1 V1 preOps; after_results_simp <;> rfl
theorem B1_eq : B1 m d = col1 (Jm m d) := by unfold B1 V1 preOps; after_results_simp <;> rfl
theorem V1_v2 : V1 m d (Proc.devRef .tc main_v2) = blocks (col0 (Im m d)) := by unfold V1 preOps; after_results_simp <;> rfl
theorem V1_v5 : V1 m d (Proc.devRef .tc main_v5) = blocks (col1 (Im m d)) := by unfold V1 preOps; after_results_simp <;> rfl

theorem V3_of_ne (r : Ref sig .tc) (h1 : r ≠ main_v11) (h2 : r ≠ main_v12) : V3 m d (Proc.devRef .tc r) = V1 m d (Proc.devRef .tc r) := by
  unfold V3 V2
  rw [Function.update_of_ne (fun e => h2 (Proc.devRef_injective _ e)), Function.update_of_ne (fun e => h1 (Proc.devRef_injective _ e))]

theorem V2_of_ne (r : Ref sig .tc) (h1 : r ≠ main_v11) : V2 m d (Proc.devRef .tc r) = V1 m d (Proc.devRef .tc r) := by
  unfold V2
  rw [Function.update_of_ne (fun e => h1 (Proc.devRef_injective _ e))]

theorem V3_v11 : V3 m d (Proc.devRef .tc main_v11) = partials (flat (Pm m d)) (col0 (Jm m d)) (col1 (Jm m d)) := by
  rw [← X1_eq, ← A1_eq, ← B1_eq]
  unfold V3 V2
  rw [Function.update_of_ne (by decide)]
  exact Function.update_self _ _ _
theorem V3_v12 : V3 m d (Proc.devRef .tc main_v12) = mutexVal (Pm m d) (blocks (col0 (Im m d))) (blocks (col1 (Im m d))) := by
  refine (V3_out m d).trans ?_
  rw [show opP (V2r m) d = Pm m d from (V2_of_ne m d main_arg0 (by decide)).trans (V1_arg0 m d),
    show opA (V2r m) d = blocks (col0 (Im m d)) from (V2_of_ne m d main_v2 (by decide)).trans (V1_v2 m d),
    show opB (V2r m) d = blocks (col1 (Im m d)) from (V2_of_ne m d main_v5 (by decide)).trans (V1_v5 m d)]

theorem V4_v16 : V4 m d (Proc.devRef .tc main_v16) = lossVal (Pm m d) (Im m d) (Jm m d) := by
  unfold lossVal
  rw [← V3_v11, ← V3_v12]
  unfold V4 postOps
  after_results_simp <;> rfl
theorem V4_arg0 : V4 m d (Proc.devRef .tc main_arg0) = Pm m d := by
  refine Eq.trans ?_ ((V3_of_ne m d main_arg0 (by decide) (by decide)).trans (V1_arg0 m d))
  unfold V4 postOps
  after_results_simp <;> rfl
theorem V4_arg1 : V4 m d (Proc.devRef .tc main_arg1) = Im m d := by
  refine Eq.trans ?_ ((V3_of_ne m d main_arg1 (by decide) (by decide)).trans (V1_arg1 m d))
  unfold V4 postOps
  after_results_simp <;> rfl
theorem V4_arg2 : V4 m d (Proc.devRef .tc main_arg2) = Jm m d := by
  refine Eq.trans ?_ ((V3_of_ne m d main_arg2 (by decide) (by decide)).trans (V1_arg2 m d))
  unfold V4 postOps
  after_results_simp <;> rfl

/-- The lists' columns are in range when the lists are. -/
theorem col0_range (J : Vec F S4096x2 .i32) (h : ∀ x, (show BitVec 32 from J x).toNat < 1000) : InRange (col0 J) := fun x => h _
theorem col1_range (J : Vec F S4096x2 .i32) (h : ∀ x, (show BitVec 32 from J x).toNat < 1000) : InRange (col1 J) := fun x => h _

end Cert.Proof.Loss
-- ==== Proof.Frames.lean ====
/-
  # The frames of the kernel and of the reference over the reals
-/
module

public import proofs.«01_k».proof.Proof.Contents
public import proofs.«01_k».proof.Proof.Pre
public import proofs.«01_k».proof.Proof.Gen.ReferenceIdeal.Run

@[expose] public section

noncomputable section

namespace Cert.Proof.Loss

open Cert.KernelIdeal Cert.KernelIdeal.Gen

open Idealize.ShloMosaic Idealize.SL.Sem

variable {F : FTy → Type} [FloatOps F]

/-- The kernel's run: the result and the arguments at the end, from indices in range. -/
theorem run_kernel [∀ e, Nonempty (Elt F e)] (m : (ℓ : Loc nD τ sig) → Buf (Elt F) ℓ) (ρ : Dev nD → PrngReg)
    (h : ∀ d, Cert.Pre_pairs_in_range.fn (Pm m d) (Im m d) (Jm m d) = fun _ => 1#1) :
    θ_run (Cert.KernelIdeal.defs (F := F)) (Cert.KernelIdeal.threads (F := F)) ⟨m, fun _ => 0, ρ⟩ fun r =>
      (∀ c : Dev nD, r.2.mem ((c.tc : Thread nD τ).loc main_v16) = lossVal (Pm m c) (Im m c) (Jm m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run (Cert.KernelIdeal.defs (F := F)) _ _).mono
    (fun _ hr => ⟨fun c => ⟨(hr.1 c _ (mem_ucRefs main_v16 rfl)).trans (V4_v16 m c), (hr.1 c _ (mem_ucRefs main_arg0 rfl)).trans (V4_arg0 m c),
      (hr.1 c _ (mem_ucRefs main_arg1 rfl)).trans (V4_arg1 m c), (hr.1 c _ (mem_ucRefs main_arg2 rfl)).trans (V4_arg2 m c)⟩, hr.2⟩)
    (run_main m ρ (fun d => by rw [A1_eq]; exact col0_range _ (range_of_pre _ _ _ (h d)).2)
      (fun d => by rw [B1_eq]; exact col1_range _ (range_of_pre _ _ _ (h d)).2))

/-- The kernel over the reals leaves its arguments alone and every counter at zero. -/
theorem frame_ideal : Cert.quiescent_KernelIdeal := fun m ρ h =>
  (θ_run (Cert.KernelIdeal.defs (F := Ideal)) _ _).mono (fun _ hr => ⟨fun c => (hr.1 c).2, hr.2⟩) (run_kernel (F := Ideal) m ρ h)

/-- So does the reference. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Loss
-- ==== Proof.Sums.lean ====
/-
  # Sums of extended reals

  Sums over initial segments of the naturals, cut into blocks; a finite non-negative factor taken out of a sum; a sum
  against the number of times a pair of columns is named.
-/
module

public import Mathlib.Data.EReal.Inv
public import Mathlib.Algebra.BigOperators.Ring.Finset
public import Mathlib.Algebra.BigOperators.Intervals

@[expose] public section

noncomputable section

namespace Cert.Proof.Loss

open Finset

/-- A sum over `m * k` positions, block by block. -/
theorem sum_blocks (f : ℕ → EReal) (k m : ℕ) : ∑ n ∈ range (m * k), f n = ∑ i ∈ range m, ∑ j ∈ range k, f (k * i + j) := by
  induction m with
  | zero => simp
  | succ m ih => rw [Nat.succ_mul, sum_range_add, ih, sum_range_succ, Nat.mul_comm k m]

/-- The tiles' order of summation: 32 workers, 16 lanes, two halves, 256 chunks, 64 rows. -/
theorem sum_tiles (g : ℕ → ℕ → EReal) :
    ∑ w ∈ range 32, ∑ l ∈ range 16,
        (∑ c ∈ range 256, ∑ r ∈ range 64, g (128 * w + r) (16 * c + l) + ∑ c ∈ range 256, ∑ r ∈ range 64, g (128 * w + (64 + r)) (16 * c + l))
      = ∑ k ∈ range 4096, ∑ r ∈ range 4096, g r k := by
  rw [sum_comm (s := range 4096), show (4096 : ℕ) = 32 * 128 from rfl, sum_blocks _ 128 32]
  refine sum_congr rfl fun w _ => ?_
  rw [show (128 : ℕ) = 64 + 64 from rfl, sum_range_add, sum_add_distrib, ← sum_add_distrib]
  rw [show (64 + 64 : ℕ) = 128 from rfl]
  have h : ∀ r, ∑ k ∈ range (32 * 128), g r k = ∑ l ∈ range 16, ∑ c ∈ range 256, g r (16 * c + l) := fun r => by
    rw [show 32 * 128 = 256 * 16 from rfl, sum_blocks _ 16 256, sum_comm]
  simp only [h]
  rw [sum_comm (s := range 64), sum_comm (s := range 64) (t := range 16), ← sum_add_distrib]
  refine sum_congr rfl fun l _ => ?_
  rw [sum_comm (s := range 256), sum_comm (s := range 256)]

/-- A finite non-negative factor comes out of a sum. -/
theorem sum_mul_const {c : EReal} (h0 : 0 ≤ c) (h1 : c ≠ ⊤) (f : ℕ → EReal) (n : ℕ) : ∑ i ∈ range n, f i * c = (∑ i ∈ range n, f i) * c := by
  induction n with
  | zero => simp
  | succ n ih => rw [sum_range_succ, sum_range_succ, ih, EReal.right_distrib_of_nonneg_of_ne_top h0 h1]

/-- A factor goes into a sum of non-negative terms. -/
theorem mul_sum_nonneg (x : EReal) (f : ℕ → EReal) (hf : ∀ i, 0 ≤ f i) (n : ℕ) : x * ∑ i ∈ range n, f i = ∑ i ∈ range n, x * f i := by
  induction n with
  | zero => simp
  | succ n ih => rw [sum_range_succ, sum_range_succ, EReal.left_distrib_of_nonneg (sum_nonneg fun i _ => hf i) (hf n), ih]

/-- One where two numbers agree, else zero. -/
def hit (a b : ℕ) : EReal := if a = b then 1 else 0

theorem hit_nonneg (a b : ℕ) : 0 ≤ hit a b := by unfold hit; split <;> simp

/-- An array summed against the number of times each pair of columns is named is the sum, over the pairs, of the entries named. -/
theorem sum_hits (G : ℕ → ℕ → EReal) (a b : ℕ → ℕ) (n : ℕ) (ha : ∀ k < n, a k < 1000) (hb : ∀ k < n, b k < 1000) :
    ∑ x ∈ range 1000, ∑ y ∈ range 1000, G x y * ∑ k ∈ range n, hit x (a k) * hit y (b k) = ∑ k ∈ range n, G (a k) (b k) := by
  have h : ∀ x y, G x y * ∑ k ∈ range n, hit x (a k) * hit y (b k) = ∑ k ∈ range n, G x y * (hit x (a k) * hit y (b k)) := fun x y =>
    mul_sum_nonneg _ _ (fun k => mul_nonneg (hit_nonneg _ _) (hit_nonneg _ _)) n
  simp only [h]
  have h2 : ∀ x, ∑ y ∈ range 1000, ∑ k ∈ range n, G x y * (hit x (a k) * hit y (b k)) = ∑ k ∈ range n, ∑ y ∈ range 1000, G x y * (hit x (a k) * hit y (b k)) :=
    fun x => sum_comm
  simp only [h2]
  rw [sum_comm]
  refine sum_congr rfl fun k hk => ?_
  have hk := mem_range.1 hk
  rw [sum_eq_single (a k), sum_eq_single (b k)]
  · simp [hit]
  · intro y _ hy; simp [hit, hy]
  · intro h; exact absurd (mem_range.2 (hb k hk)) h
  · intro x _ hx; simp [hit, hx]
  · intro h; exact absurd (mem_range.2 (ha k hk)) h

end Cert.Proof.Loss
-- ==== Proof.TileSum.lean ====
/-
  # What the tiles' partial sums add up to

  Over the reals: the sum, over the pairs and the rows, of the positive part of the difference of the two columns named.
-/
module

public import proofs.«01_k».proof.Proof.Contents
public import proofs.«01_k».proof.Proof.Sums
public import Idealize.ShloMosaic.Lib.IdealHost
public import Idealize.ShloMosaic.Lib.Pointwise

@[expose] public section

noncomputable section

namespace Cert.Proof.Loss

open Cert.KernelIdeal Cert.KernelIdeal.Gen
open Idealize.ShloMosaic
open Finset

/-- The predictions at a row and a column, and a list's number at a position. -/
def at2 (P : Vec Ideal S4096x1000 .f32) (r c : ℕ) : EReal := P (iMat r c)
def num (I : Vec Ideal S4096 .i32) (k : ℕ) : ℕ := (show BitVec 32 from I (iPair k)).toNat

/-- A number of a list whose entries are in range. -/
theorem num_lt {I : Vec Ideal S4096 .i32} (h : InRange I) (k : ℕ) : num I k < 1000 := h _

/-- The positive part of a difference of two columns at a row. -/
def gap (P : Vec Ideal S4096x1000 .f32) (A B : Vec Ideal S4096 .i32) (r k : ℕ) : EReal :=
  max (at2 P r (num A k) - at2 P r (num B k)) 0

theorem rowFold_apply (slab : Vec Ideal S64000 .f32) (va vb : IVec S16 32) (acc : FVec Ideal S16 .f32) (t : ℕ) (l : S16.Idx) :
    rowFold slab va vb acc t l = (acc l : EReal) + ∑ r ∈ range t,
      (max ((slab (iSlab (1000 * r + (va l).toNat)) : EReal) - slab (iSlab (1000 * r + (vb l).toNat))) 0 : EReal) := by
  induction t with
  | zero => simp [rowFold]
  | succ t ih =>
    rw [sum_range_succ, ← add_assoc, ← ih]
    show (rowFold slab va vb acc t l : EReal) + max _ (Ideal.ofBits .f32 0x00000000#32) = _
    rw [Ideal.ofBits_zero_f32]
    rfl

theorem chunkFold_apply (slab : Vec Ideal S64000 .f32) (A B : Vec Ideal S4096 .i32) (acc : FVec Ideal S16 .f32) (j : ℕ) (l : S16.Idx) :
    chunkFold slab A B acc j l = (acc l : EReal) + ∑ c ∈ range j, ∑ r ∈ range 64,
      (max ((slab (iSlab (1000 * r + num A (16 * c + (l 0).val))) : EReal) - slab (iSlab (1000 * r + num B (16 * c + (l 0).val)))) 0 : EReal) := by
  induction j with
  | zero => simp [chunkFold]
  | succ j ih =>
    rw [sum_range_succ, ← add_assoc, ← ih]
    show rowFold slab (lanes A j) (lanes B j) (chunkFold slab A B acc j) 64 l = _
    rw [rowFold_apply]
    rfl

/-- The flat predictions at a row and column. -/
theorem flat_apply (P : Vec Ideal S4096x1000 .f32) (r c : ℕ) (hr : r < 4096) (hc : c < 1000) : flat P (iFlat (1000 * r + c)) = at2 P r c := by
  have e : iFlat (1000 * r + c) = ix1 (⟨1000 * r + c, by omega⟩ : Fin 4096000) := by
    funext a; obtain rfl : a = 0 := Subsingleton.elim _ _
    exact Fin.ext (Nat.mod_eq_of_lt (by show 1000 * r + c < 4096000; omega))
  have e2 : iMat r c = ix2 (⟨r, hr⟩ : Fin 4096) (⟨c, hc⟩ : Fin 1000) := by
    funext a
    match a with
    | ⟨0, _⟩ => exact Fin.ext (Nat.mod_eq_of_lt hr)
    | ⟨1, _⟩ => exact Fin.ext (Nat.mod_eq_of_lt hc)
  unfold at2
  rw [e, e2]
  pointwise [flat]
  have h1 : (1000 * r + c) / 1000 = r := by omega
  have h2 : (1000 * r + c) % 1000 = c := by omega
  congr 2 <;> exact Fin.ext ‹_›

/-- A tile's rows, read through its slab. -/
theorem slab_apply (P : Vec Ideal S4096x1000 .f32) (w h r c : ℕ) (hw : w < 32) (hh : h < 2) (hr : r < 64) (hc : c < 1000) :
    slabOf (flat P) w h (iSlab (1000 * r + c)) = at2 P (128 * w + (64 * h + r)) c := by
  rw [← flat_apply P _ c (by omega) hc]
  unfold slabOf
  rw [show ((iSlab (1000 * r + c)) 0).val = 1000 * r + c from Nat.mod_eq_of_lt (by show 1000 * r + c < 64000; omega)]
  congr 2
  omega

/-- What lane `l` of worker `w` holds. -/
theorem tile_apply (P : Vec Ideal S4096x1000 .f32) (A B : Vec Ideal S4096 .i32) (hA : InRange A) (hB : InRange B) (w l : ℕ) (hw : w < 32) (hl : l < 16) :
    tileVal (flat P) A B w (iLane l)
      = ((∑ c ∈ range 256, ∑ r ∈ range 64, gap P A B (128 * w + r) (16 * c + l) + ∑ c ∈ range 256, ∑ r ∈ range 64, gap P A B (128 * w + (64 + r)) (16 * c + l) : EReal)) := by
  unfold tileVal halfVal
  rw [chunkFold_apply, chunkFold_apply]
  rw [show ((iLane l) 0).val = l from Nat.mod_eq_of_lt hl]
  have h0 : ((broadcast S16 (Scalar.ofBits .f32 0x00000000#32) : FVec Ideal S16 .f32) (iLane l) : EReal) = 0 := Ideal.ofBits_zero_f32
  rw [h0, zero_add]
  congr 1
  · refine sum_congr rfl fun c _ => sum_congr rfl fun r hr => ?_
    rw [slab_apply P w 0 r _ hw (by omega) (mem_range.1 hr) (num_lt hA _), slab_apply P w 0 r _ hw (by omega) (mem_range.1 hr) (num_lt hB _)]
    rw [show 64 * 0 + r = r by omega]; rfl
  · refine sum_congr rfl fun c _ => sum_congr rfl fun r hr => ?_
    rw [slab_apply P w 1 r _ hw (by omega) (mem_range.1 hr) (num_lt hA _), slab_apply P w 1 r _ hw (by omega) (mem_range.1 hr) (num_lt hB _)]
    rfl

/-- The partial sums, all together. -/
theorem partials_sum (P : Vec Ideal S4096x1000 .f32) (A B : Vec Ideal S4096 .i32) (hA : InRange A) (hB : InRange B) (j : S_.Idx) :
    (Host.reduceAdd (partials (flat P) A B) (constant S_ .f32 0x00000000#32) reducesTo_S32x16_S_d0_1 h_S_ : FVec Ideal S_ .f32) j
      = ((∑ k ∈ range 4096, ∑ r ∈ range 4096, gap P A B r k : EReal)) := by
  rw [ValueIdx.hostReduceAdd_apply, Ideal.hostReduceAdd_total _ (fun b => b.elim0)]
  rw [show ((constant S_ .f32 0x00000000#32 : FVec Ideal S_ .f32) (Shape.Idx.first h_S_) : EReal) = 0 from Ideal.ofBits_zero_f32, zero_add, sum_idx2,
    ← sum_tiles (gap P A B)]
  rw [Finset.sum_range]
  refine sum_congr rfl fun w _ => ?_
  rw [Finset.sum_range]
  refine sum_congr rfl fun l _ => ?_
  exact tile_apply P A B hA hB w.val l.val w.isLt l.isLt

end Cert.Proof.Loss
-- ==== Proof.GramSum.lean ====
/-
  # What the TensorCore kernel's scalar is

  Over the reals: the sum, over the pairs and the rows, of the product of the two columns named. The kernel sums products
  of every two columns against the number of times the two are a pair.
-/
module

public import proofs.«01_k».proof.Proof.TileSum

@[expose] public section

noncomputable section

namespace Cert.Proof.Loss

open Cert.KernelIdeal Cert.KernelIdeal.Gen
open Idealize.ShloMosaic
open Finset

/-- The product of two columns at a row. -/
def prod2 (P : Vec Ideal S4096x1000 .f32) (x y r : ℕ) : EReal := at2 P r x * at2 P r y

theorem pay1_apply (v : Vec Ideal S512x1000 .f32) (x y : Fin 1000) :
    k1_pay1 v (ix2 x y) = (∑ r : Fin 512, (v (ix2 r x) : EReal) * v (ix2 r y) : EReal) := by
  pointwise [k1_pay1]

theorem gram_apply (P : Vec Ideal S4096x1000 .f32) (n : ℕ) (x y : Fin 1000) :
    gramAcc P n (ix2 x y) = (∑ t ∈ range (n + 1), ∑ r ∈ range 512, prod2 P x.val y.val (512 * t + r) : EReal) := by
  have hb : ∀ t, k1_pay1 (matBlk P t) (ix2 x y) = (∑ r ∈ range 512, prod2 P x.val y.val (512 * t + r) : EReal) := fun t => by
    rw [pay1_apply, Finset.sum_range]; rfl
  induction n with
  | zero =>
    rw [sum_range_one, ← hb]
    show k1_pay3 (matBlk P 0) (ix2 x y) = _
    pointwise [k1_pay3]
  | succ n ih =>
    rw [sum_range_succ, ← ih, ← hb]
    show k1_pay5 (matBlk P (n + 1)) (gramAcc P n) (ix2 x y) = _
    pointwise [k1_pay5]

/-- An entry of a one-hot row. -/
theorem hit_word (x : Fin 1000) (w : BitVec 32) :
    (FloatOps.sitofp (F := Ideal) .f32 (BitVec.setWidth 32 (IntOp.cmpi .eq (BitVec.ofNat 32 x.val) w)) : EReal) = hit x.val w.toNat := by
  have e : (BitVec.ofNat 32 x.val = w) ↔ x.val = w.toNat := by
    constructor
    · rintro rfl; rw [BitVec.toNat_ofNat]; have := x.isLt; omega
    · intro h; apply BitVec.eq_of_toNat_eq; rw [BitVec.toNat_ofNat]; have := x.isLt; omega
  show (((BitVec.setWidth 32 (IntOp.cmpi .eq (BitVec.ofNat 32 x.val) w)).toInt : ℝ) : EReal) = _
  unfold hit
  by_cases h : x.val = w.toNat
  · rw [if_pos h, show IntOp.cmpi .eq (BitVec.ofNat 32 x.val) w = 1#1 by simp [IntOp.cmpi, e.2 h]]
    have : (BitVec.setWidth 32 1#1).toInt = 1 := by decide
    rw [this]; simp
  · rw [if_neg h, show IntOp.cmpi .eq (BitVec.ofNat 32 x.val) w = 0#1 by
      rw [IntOp.cmpi, beq_false_of_ne fun h' => h (e.1 h')]; rfl]
    have : (BitVec.setWidth 32 0#1).toInt = 0 := by decide
    rw [this]; simp

theorem pay2_apply (a b : Vec Ideal S1x1x512 .i32) (x y : Fin 1000) :
    k1_pay2 a b (ix2 x y) = (∑ r : Fin 512, hit x.val (show BitVec 32 from a (ix3 0 0 r)).toNat * hit y.val (show BitVec 32 from b (ix3 0 0 r)).toNat : EReal) := by
  pointwise [k1_pay2]
  refine sum_congr rfl fun r _ => ?_
  exact congrArg₂ (fun u v : EReal => u * v) (hit_word x _) (hit_word y _)

/-- An entry of a block of a list. -/
theorem blocks_apply (I : Vec Ideal S4096 .i32) (t : ℕ) (r : Fin 512) (ht : t < 8) : idxBlk (blocks I) t (ix3 0 0 r) = I (iPair (512 * t + r.val)) := by
  have e : iBlk t r.val = ix3 (⟨t, ht⟩ : Fin 8) (0 : Fin 1) r := by
    funext a
    match a with
    | ⟨0, _⟩ => exact Fin.ext (Nat.mod_eq_of_lt ht)
    | ⟨1, _⟩ => rfl
    | ⟨2, _⟩ => exact Fin.ext (Nat.mod_eq_of_lt r.isLt)
  have e2 : iPair (512 * t + r.val) = ix1 (⟨512 * t + r.val, by omega⟩ : Fin 4096) := by
    funext a; obtain rfl : a = 0 := Subsingleton.elim _ _
    exact Fin.ext (Nat.mod_eq_of_lt (by show 512 * t + r.val < 4096; omega))
  show blocks I (iBlk t r.val) = _
  rw [e, e2]
  pointwise [blocks]
  congr 2
  first | rfl | (apply Fin.ext; simp; omega)

theorem mask_apply (A B : Vec Ideal S4096 .i32) (n : ℕ) (hn : n < 8) (x y : Fin 1000) :
    maskAcc (blocks A) (blocks B) n (ix2 x y)
      = (∑ t ∈ range (n + 1), ∑ r ∈ range 512, hit x.val (num A (512 * t + r)) * hit y.val (num B (512 * t + r)) : EReal) := by
  have hb : ∀ t < 8, k1_pay2 (idxBlk (blocks A) t) (idxBlk (blocks B) t) (ix2 x y)
      = (∑ r ∈ range 512, hit x.val (num A (512 * t + r)) * hit y.val (num B (512 * t + r)) : EReal) := fun t ht => by
    rw [pay2_apply, Finset.sum_range]
    refine sum_congr rfl fun r _ => ?_
    rw [blocks_apply A t r ht, blocks_apply B t r ht]; rfl
  induction n with
  | zero =>
    rw [sum_range_one, ← hb 0 hn]
    show k1_pay4 (idxBlk (blocks A) 0) (idxBlk (blocks B) 0) (ix2 x y) = _
    pointwise [k1_pay4]
  | succ n ih =>
    rw [sum_range_succ, ← ih (by omega), ← hb (n + 1) hn]
    show k1_pay6 (idxBlk (blocks A) (n + 1)) (idxBlk (blocks B) (n + 1)) (maskAcc (blocks A) (blocks B) n) (ix2 x y) = _
    pointwise [k1_pay6]

theorem pay7_apply (G M : Vec Ideal S1000x1000 .f32) (j : S1x1.Idx) :
    k1_pay7 G M j = (∑ x : Fin 1000, ∑ y : Fin 1000, (G (ix2 x y) : EReal) * M (ix2 x y) : EReal) := by
  pointwise [k1_pay7]

/-- The scalar the TensorCore kernel writes. -/
theorem mutex_sum (P : Vec Ideal S4096x1000 .f32) (A B : Vec Ideal S4096 .i32) (hA : InRange A) (hB : InRange B) (j : S1x1.Idx) :
    mutexVal P (blocks A) (blocks B) j = (∑ k ∈ range 4096, ∑ r ∈ range 4096, prod2 P (num A k) (num B k) r : EReal) := by
  unfold mutexVal
  rw [pay7_apply, ← sum_hits (fun x y => ∑ r ∈ range 4096, prod2 P x y r) (num A) (num B) 4096 (fun k _ => num_lt hA k) (fun k _ => num_lt hB k)]
  rw [Finset.sum_range (n := 1000)]
  refine sum_congr rfl fun x _ => ?_
  rw [Finset.sum_range (n := 1000)]
  refine sum_congr rfl fun y _ => ?_
  rw [gram_apply, mask_apply A B 7 (by omega), ← sum_blocks _ 512 8, ← sum_blocks (fun k => hit x.val (num A k) * hit y.val (num B k)) 512 8]

end Cert.Proof.Loss
-- ==== Proof.RefValue.lean ====
/-
  # What the reference computes

  The reference's result as named pieces, and a take of columns read at an entry where the list is in range.
-/
module

public import proofs.«01_k».proof.Proof.GramSum
public import proofs.«01_k».proof.Proof.Gen.ReferenceIdeal.Run
public import Idealize.ShloMosaic.Lib.ReduceAll
public import Idealize.ShloMosaic.Lib.WordCmp

@[expose] public section

noncomputable section

namespace Cert.Proof.Loss

open Cert.ReferenceIdeal Cert.ReferenceIdeal.Gen
open Idealize.ShloMosaic Idealize.ShloMosaic.TcCoe
open Finset

/-- A list's numbers with the negative ones wrapped, as a column; whether each lies in range; the columns taken. -/
def wrapped (I : IVec S4096 32) : IVec S4096x1 32 :=
  broadcastInDim S4096x1 ![0] bcast_S4096_S4096x1_0
    (select (cmpi .slt I (broadcastInDim S4096 ![] bcast_S_S4096 (constantI S_ 32 0#32))) (addi I (broadcastInDim S4096 ![] bcast_S_S4096 (constantI S_ 32 1000#32))) I)
def inside (I : IVec S4096 32) : IVec S4096 1 :=
  Host.reduce IntOp.andi (andi (cmpi .sge (wrapped I) (broadcastInDim S4096x1 ![] bcast_S_S4096x1 (constantI S_ 32 0#32)))
    (cmpi .sle (wrapped I) (broadcastInDim S4096x1 ![0, 1] bcast_S1x1_S4096x1_0_1 (broadcastInDim S1x1 ![1] bcast_S1_S1x1_1 (constantI S1 32 999#32)))))
    (constantI S_ 1 1#1) reducesTo_S4096x1_S4096_d1 h_S_
def taken (P : FVec Ideal S4096x1000 .f32) (I : IVec S4096 32) : FVec Ideal S4096x4096 .f32 :=
  select (broadcastInDim S4096x4096 ![1] bcast_S4096_S4096x4096_1 (inside I)) (Host.gather gather_S4096x1000_S4096x1_S4096x4096_0_1_n_n_1_1_40961 P (wrapped I))
    (broadcastInDim S4096x4096 ![] bcast_S_S4096x4096 (constant S_ .f32 0x7FC00000#32))
/-- The sum over the columns of the mean over the rows. -/
def meanSum (X : FVec Ideal S4096x4096 .f32) : FVec Ideal S_ .f32 :=
  Host.reduceAdd (Host.divf (Host.reduceAdd X (constant S_ .f32 0x00000000#32) reducesTo_S4096x4096_S4096_d0 h_S_)
    (broadcastInDim S4096 ![] bcast_S_S4096 (constant S_ .f32 0x45800000#32))) (constant S_ .f32 0x00000000#32) reducesTo_S4096_S_d0 h_S_
def refLoss (P : FVec Ideal S4096x1000 .f32) (I J : IVec S4096x2 32) : FVec Ideal S_ .f32 :=
  addf (meanSum (mulf (taken P (col0 (F := Ideal) I)) (taken P (col1 (F := Ideal) I))))
    (meanSum (maximumf (subf (taken P (col0 (F := Ideal) J)) (taken P (col1 (F := Ideal) J))) (broadcastInDim S4096x4096 ![] bcast_S_S4096x4096 (constant S_ .f32 0x00000000#32))))

theorem res_eq (m : (ℓ : Loc nD τ sig) → Buf (Elt Ideal) ℓ) (c : Dev nD) :
    Cert.ReferenceIdeal.Value.res_main_v23 m c
      = refLoss (m ((c.tc : Thread nD τ).loc main_arg0)) (m ((c.tc : Thread nD τ).loc main_arg1)) (m ((c.tc : Thread nD τ).loc main_arg2)) := rfl

/-- A number in range is not wrapped. -/
theorem wrapped_apply (I : IVec S4096 32) (hI : ∀ x, (I x).toNat < 1000) (x : S4096x1.Idx) : wrapped I x = I (ix1 (x 0)) := by
  obtain ⟨k, z, rfl⟩ : ∃ (k : Fin 4096) (z : Fin 1), x = ix2 k z := ⟨x 0, x 1, eq_ix2 x⟩
  pointwise [wrapped]
  have h := hI (ix1 k)
  rw [WordCmp.cmpi_slt_of_lt (by omega) (by decide)]
  rfl

theorem inside_apply (I : IVec S4096 32) (hI : ∀ x, (I x).toNat < 1000) (k : S4096.Idx) : inside I k = 1#1 := by
  unfold inside
  refine Host.reduce_andi_one _ _ _ _ _ rfl fun x => ?_
  show IntOp.andi (IntOp.cmpi .sge (wrapped I x) 0#32) (IntOp.cmpi .sle (wrapped I x) 999#32) = 1#1
  rw [wrapped_apply I hI]
  have h := hI (ix1 (x 0))
  rw [WordCmp.cmpi_sge_of_lt (by omega) (by decide), WordCmp.cmpi_sle_of_lt (by omega) (by decide), WordCmp.andi_ofBool]
  have e0 : (0#32 : BitVec 32).toNat = 0 := rfl
  have e1 : (999#32 : BitVec 32).toNat = 999 := rfl
  rw [e0, e1, decide_eq_true (by omega), decide_eq_true (by omega)]
  rfl

theorem gather_cols (P : FVec Ideal S4096x1000 .f32) (idx : IVec S4096x1 32) (r k : Fin 4096) (b : Fin 1000) (hb : (idx (ix2 k 0)).toNat = b.val) :
    Host.gather gather_S4096x1000_S4096x1_S4096x4096_0_1_n_n_1_1_40961 P idx (ix2 r k) = P (ix2 r b) := by
  unfold Host.gather
  refine congrArg P (funext fun a => Fin.ext ?_)
  show GatherDims.start _ _ _ a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ gather_S4096x1000_S4096x1_S4096x4096_0_1_n_n_1_1_40961.startIndexMap from by decide)]
    unfold GatherDims.offCoord
    rw [dif_pos (show (0 : Fin 2) ∈ gather_S4096x1000_S4096x1_S4096x4096_0_1_n_n_1_1_40961.sKept from by decide)]
    simp only [Nat.zero_add]
    rfl
  · rw [GatherDims.offCoord_eq_zero _ _ _ (show (1 : Fin 2) ∉ gather_S4096x1000_S4096x1_S4096x4096_0_1_n_n_1_1_40961.sKept from by decide)]
    unfold GatherDims.start
    have hm : (1 : Fin 2) ∈ gather_S4096x1000_S4096x1_S4096x4096_0_1_n_n_1_1_40961.startIndexMap := by decide
    rw [dif_pos hm]
    have hsi : gather_S4096x1000_S4096x1_S4096x4096_0_1_n_n_1_1_40961.siIdx (ix2 r k)
        ⟨List.idxOf (1 : Fin 2) gather_S4096x1000_S4096x1_S4096x4096_0_1_n_n_1_1_40961.startIndexMap, List.idxOf_lt_length_iff.2 hm⟩ = ix2 k (0 : Fin 1) := by
      funext c; refine Fin.ext ?_
      match c with
      | ⟨0, _⟩ => rfl
      | ⟨1, _⟩ => rfl
    rw [hsi]
    have hlt := b.isLt
    rw [WordCmp.toInt_eq_toNat_of_lt_half (show (idx (ix2 k 0)).toNat < 2 ^ (32 - 1) by omega), hb]
    show min b.val 999 + 0 + 0 = b.val
    omega

/-- An entry of the taken columns. -/
theorem taken_apply (P : FVec Ideal S4096x1000 .f32) (I : IVec S4096 32) (hI : InRange (F := Ideal) I) (r k : Fin 4096) :
    taken P I (ix2 r k) = at2 P r.val (num I k.val) := by
  have hk : (ix1 k : S4096.Idx) = iPair k.val := by
    funext a; obtain rfl : a = 0 := Subsingleton.elim _ _
    exact Fin.ext (Nat.mod_eq_of_lt k.isLt).symm
  show Scalar.select (inside I _) _ _ = _
  rw [inside_apply I hI, ValueIdx.select_one, gather_cols P (wrapped I) r k ⟨num I k.val, num_lt hI _⟩ (by rw [wrapped_apply I hI]; show (I (ix1 k)).toNat = _; rw [hk]; rfl)]
  unfold at2
  congr 1
  funext a
  match a with
  | ⟨0, _⟩ => exact Fin.ext (Nat.mod_eq_of_lt r.isLt).symm
  | ⟨1, _⟩ => exact Fin.ext (Nat.mod_eq_of_lt (num_lt hI k.val)).symm

end Cert.Proof.Loss
-- ==== Proof.Value.lean ====
/-
  # Kernel and reference compute one value

  Both losses as the sums over pairs and rows; the factor 1/4096 taken in or out of the sum.
-/
module

public import proofs.«01_k».proof.Proof.RefValue
public import proofs.«01_k».proof.Proof.Frames
public import proofs.«01_k».proof.Defs

@[expose] public section

noncomputable section

namespace Cert.Proof.Loss

open Cert.ReferenceIdeal Cert.ReferenceIdeal.Gen
open Idealize.ShloMosaic Idealize.ShloMosaic.TcCoe Idealize.SL.Sem
open Finset

/-- The factor 1/4096. -/
def inv4096 : EReal := ((1 / 4096 : ℝ) : EReal)

theorem inv_nonneg' : 0 ≤ inv4096 := EReal.coe_nonneg.2 (by norm_num)
theorem inv_ne_top' : inv4096 ≠ ⊤ := EReal.coe_ne_top _

theorem word_inv : Ideal.ofBits .f32 0x39800000#32 = inv4096 := by
  simp [Ideal.ofBits, Ideal.ieee, inv4096, -EReal.coe_mul]
  norm_num

theorem word_4096 : Ideal.ofBits .f32 0x45800000#32 = ((4096 : ℝ) : EReal) := by
  simp [Ideal.ofBits, Ideal.ieee, -EReal.coe_mul]
  norm_num

theorem div_4096 (x : EReal) : Ideal.div x ((4096 : ℝ) : EReal) = x * inv4096 := by
  have h : ((4096 : ℝ) : EReal) ≠ 0 := by exact_mod_cast (by norm_num : (4096 : ℝ) ≠ 0)
  rw [Ideal.div, if_neg h, ← EReal.coe_inv]
  unfold inv4096
  norm_num

theorem meanSum_apply (X : FVec Ideal S4096x4096 .f32) (f : ℕ → ℕ → EReal) (hX : ∀ r k : Fin 4096, X (ix2 r k) = f k.val r.val) (j : S_.Idx) :
    meanSum X j = ((∑ k ∈ range 4096, ∑ r ∈ range 4096, f k r) * inv4096 : EReal) := by
  rw [← sum_mul_const inv_nonneg' inv_ne_top', Finset.sum_range]
  pointwise [meanSum]
  refine sum_congr rfl fun k _ => ?_
  rw [Finset.sum_range, word_4096, div_4096]
  simp only [hX]

theorem kernel_value (P : Vec Ideal S4096x1000 .f32) (I J : Vec Ideal S4096x2 .i32) (hI0 : InRange (F := Ideal) (col0 I)) (hI1 : InRange (F := Ideal) (col1 I))
    (hJ0 : InRange (F := Ideal) (col0 J)) (hJ1 : InRange (F := Ideal) (col1 J)) (j : S_.Idx) :
    lossVal P I J j = ((∑ k ∈ range 4096, ∑ r ∈ range 4096, gap P (col0 J) (col1 J) r k
      + ∑ k ∈ range 4096, ∑ r ∈ range 4096, prod2 P (num (col0 I) k) (num (col1 I) k) r) * inv4096 : EReal) := by
  rw [← word_inv, ← partials_sum P _ _ hJ0 hJ1 j, ← mutex_sum P _ _ hI0 hI1 (Shape.reshapeEquiv Cert.KernelIdeal.Gen.shapeCasts_S1x1_S_ j)]
  rfl

theorem reference_value (P : Vec Ideal S4096x1000 .f32) (I J : Vec Ideal S4096x2 .i32) (hI0 : InRange (F := Ideal) (col0 I)) (hI1 : InRange (F := Ideal) (col1 I))
    (hJ0 : InRange (F := Ideal) (col0 J)) (hJ1 : InRange (F := Ideal) (col1 J)) (j : S_.Idx) :
    refLoss P I J j = ((∑ k ∈ range 4096, ∑ r ∈ range 4096, prod2 P (num (col0 I) k) (num (col1 I) k) r) * inv4096
      + (∑ k ∈ range 4096, ∑ r ∈ range 4096, gap P (col0 J) (col1 J) r k) * inv4096 : EReal) := by
  rw [← meanSum_apply (mulf (taken P (col0 (F := Ideal) I)) (taken P (col1 (F := Ideal) I))) (fun k r => prod2 P (num (col0 I) k) (num (col1 I) k) r)
      (fun r k => congrArg₂ (fun u v : EReal => u * v) (taken_apply P _ hI0 r k) (taken_apply P _ hI1 r k)) j,
    ← meanSum_apply (maximumf (subf (taken P (col0 (F := Ideal) J)) (taken P (col1 (F := Ideal) J))) (broadcastInDim S4096x4096 ![] bcast_S_S4096x4096 (constant S_ .f32 0x00000000#32)))
      (fun k r => gap P (col0 J) (col1 J) r k) (fun r k => by
        show max ((taken P (col0 (F := Ideal) J) (ix2 r k) : EReal) - taken P (col1 (F := Ideal) J) (ix2 r k)) (Ideal.ofBits .f32 0x00000000#32) = _
        rw [taken_apply P _ hJ0, taken_apply P _ hJ1, Ideal.ofBits_zero_f32]; rfl) j]
  rfl

/-- The two losses are one. -/
theorem losses_eq (P : Vec Ideal S4096x1000 .f32) (I J : Vec Ideal S4096x2 .i32) (h : Cert.Pre_pairs_in_range.fn (F := Ideal) P I J = fun _ => 1#1) :
    refLoss P I J = lossVal P I J := by
  obtain ⟨hI, hJ⟩ := range_of_pre (F := Ideal) P I J h
  funext j
  rw [kernel_value P I J (col0_range I hI) (col1_range I hI) (col0_range J hJ) (col1_range J hJ) j,
    reference_value P I J (col0_range I hI) (col1_range I hI) (col0_range J hJ) (col1_range J hJ) j,
    EReal.right_distrib_of_nonneg_of_ne_top inv_nonneg' inv_ne_top', add_comm]

/-- Kernel and reference end with one result from the same arguments. -/
theorem algebraic : Cert.algebraic_KernelIdeal_ReferenceIdeal := fun m g m' g' hpre hargs =>
  ⟨fun c => lossVal (Pm m c) (Im m c) (Jm m c),
    (θ_run (Cert.KernelIdeal.defs (F := Ideal)) _ _).mono (fun _ hr => hr.1) (run_kernel (F := Ideal) m g hpre),
    (θ_run Cert.ReferenceIdeal.defs _ _).mono (fun _ h c => ⟨(h c).1.trans (by
        rw [res_eq]
        obtain ⟨h0, h1, h2⟩ := hargs c
        rw [h0, h1, h2]
        exact losses_eq _ _ _ (hpre c)), (h c).2⟩)
      (Cert.ReferenceIdeal.Value.run (F := Ideal) m' g')⟩

end Cert.Proof.Loss
-- ==== Proof.lean ====
/-
  # The claim

  The frames of the two readings of the kernel and of the reference, that no operation was rewritten, and that kernel
  and reference compute one value over the reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_pairs_in_range
public import proofs.«01_k».proof.Proof.Bits.Frame
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_pairs_in_range.Gen.facts, LossBits.frame_kernel, Loss.frame_ideal, Loss.frame_reference, trivial, Loss.algebraic⟩

end Cert.Proof

end
